-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_table_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S512x512 : Shape := ⟨2, ![512, 512]⟩
abbrev S256x512 : Shape := ⟨2, ![256, 512]⟩
abbrev S4 : Shape := ⟨1, ![4]⟩
abbrev S64x512 : Shape := ⟨2, ![64, 512]⟩

abbrev nBuf : Space → Nat
  | .hbm => 51
  | .vmem => 4
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1, .i32⟩
  | .hbm, ⟨32, _⟩ => ⟨S_, .i32⟩
  | .hbm, ⟨33, _⟩ => ⟨S512x1, .i32⟩
  | .hbm, ⟨34, _⟩ => ⟨S512x1, .i1⟩
  | .hbm, ⟨35, _⟩ => ⟨S1x1, .i32⟩
  | .hbm, ⟨36, _⟩ => ⟨S512x1, .i32⟩
  | .hbm, ⟨37, _⟩ => ⟨S512x1, .i1⟩
  | .hbm, ⟨38, _⟩ => ⟨S512x1, .i1⟩
  | .hbm, ⟨39, _⟩ => ⟨S_, .i1⟩
  | .hbm, ⟨40, _⟩ => ⟨S512, .i1⟩
  | .hbm, ⟨41, _⟩ => ⟨S512x512, .f32⟩
  | .hbm, ⟨42, _⟩ => ⟨S512x512, .i1⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x1, .i1⟩
  | .hbm, ⟨47, _⟩ => ⟨S512x1, .f32⟩
  | .hbm, ⟨48, _⟩ => ⟨S512x512, .f32⟩
  | .hbm, ⟨49, _⟩ => ⟨S512x512, .f32⟩
  | .hbm, ⟨50, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_14 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v24 : BitVec 32 := Scalar.muli v5 c256_i32
  let v25 : BitVec 32 := Scalar.addi v24 c0_i32_14
  let c0_i32_23 : BitVec 32 := 0#32
  ![v25.toNat, 0]
def k0_dev3 (d0 : Dev nD) : Nat :=
  let c0_i32_18 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_17 : BitVec 32 := 8#32
  let v26 : BitVec 32 := Scalar.muli v9 c8_i32_17
  let v27 : BitVec 32 := Scalar.addi c0_i32_18 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v28 : BitVec 32 := Scalar.muli v5 c4_i32_19
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.muli v8 c1_i32_20
  let v31 : BitVec 32 := Scalar.addi v29 v30
  v31.toNat
def k0_dev4 (d0 : Dev nD) : Nat :=
  let c0_i32_27 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_26 : BitVec 32 := 8#32
  let v39 : BitVec 32 := Scalar.muli v9 c8_i32_26
  let v40 : BitVec 32 := Scalar.addi c0_i32_27 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v41 : BitVec 32 := Scalar.muli v5 c4_i32_28
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v43 : BitVec 32 := Scalar.muli v8 c1_i32_29
  let v44 : BitVec 32 := Scalar.addi v42 v43
  v44.toNat
def k0_dev5 (d0 : Dev nD) : Nat :=
  let c0_i32_36 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_35 : BitVec 32 := 8#32
  let v52 : BitVec 32 := Scalar.muli v9 c8_i32_35
  let v53 : BitVec 32 := Scalar.addi c0_i32_36 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v54 : BitVec 32 := Scalar.muli v5 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev6 (d0 : Dev nD) : Nat :=
  let c0_i32_44 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_43 : BitVec 32 := 8#32
  let v65 : BitVec 32 := Scalar.muli v9 c8_i32_43
  let v66 : BitVec 32 := Scalar.addi c0_i32_44 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v67 : BitVec 32 := Scalar.muli v5 c4_i32_45
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v69 : BitVec 32 := Scalar.muli v8 c1_i32_46
  let v70 : BitVec 32 := Scalar.addi v68 v69
  v70.toNat
def k0_dev7 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v87 : BitVec 32 := Scalar.muli v2 c8_i32_61
  let v88 : BitVec 32 := Scalar.addi c0_i32_62 v87
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_63 : BitVec 32 := 4#32
  let v89 : BitVec 32 := Scalar.muli v10 c4_i32_63
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v91 : BitVec 32 := Scalar.muli v8 c1_i32_64
  let v92 : BitVec 32 := Scalar.addi v90 v91
  v92.toNat
def k0_dev8 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v109 : BitVec 32 := Scalar.muli v2 c8_i32_80
  let v110 : BitVec 32 := Scalar.addi c0_i32_81 v109
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_82 : BitVec 32 := 4#32
  let v111 : BitVec 32 := Scalar.muli v10 c4_i32_82
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v113 : BitVec 32 := Scalar.muli v8 c1_i32_83
  let v114 : BitVec 32 := Scalar.addi v112 v113
  v114.toNat
def k0_dev9 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v131 : BitVec 32 := Scalar.muli v2 c8_i32_99
  let v132 : BitVec 32 := Scalar.addi c0_i32_100 v131
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_101 : BitVec 32 := 4#32
  let v133 : BitVec 32 := Scalar.muli v10 c4_i32_101
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v135 : BitVec 32 := Scalar.muli v8 c1_i32_102
  let v136 : BitVec 32 := Scalar.addi v134 v135
  v136.toNat
def k0_dev10 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v153 : BitVec 32 := Scalar.muli v2 c8_i32_118
  let v154 : BitVec 32 := Scalar.addi c0_i32_119 v153
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_120 : BitVec 32 := 4#32
  let v155 : BitVec 32 := Scalar.muli v10 c4_i32_120
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v157 : BitVec 32 := Scalar.muli v8 c1_i32_121
  let v158 : BitVec 32 := Scalar.addi v156 v157
  v158.toNat
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v24 : BitVec 32 := Scalar.muli v5 c256_i32
  let v165 : Index := Scalar.indexCast v24
  let c0 : Index := 0#32
  ![v165.toNat, 0]
def k0_off3 (d0 : Dev nD) : Fin 2 → Nat :=
  let c1_i32_169 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v212 : BitVec 32 := Scalar.subi c1_i32_169 v5
  let c256_i32_170 : BitVec 32 := 256#32
  let v213 : BitVec 32 := Scalar.muli v212 c256_i32_170
  let v214 : Index := Scalar.indexCast v213
  let c0_171 : Index := 0#32
  ![v214.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Text.lean ====
/-
# The kernel's body, its operations written as families

The printed body names each of its copies and waits one by one. Here the four chunk copies of either direction are one
family over the chunk number `k`, and the body is a chain of seven phases, each taking the program that follows it.
`body_eq` states that this text is the printed body.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.EmbedProof

open Cert.KernelIdeal Cert.KernelIdeal.Gen
open Idealize.ShloMosaic Idealize.ShloMosaic.TcCoe
open Idealize.SL Idealize.SL.Sem

variable {F : FTy → Type} [FloatOps F]

/-! ## Neighbours -/

/-- The device on the other side of the mesh's first axis. -/
def xn (c : Dev nD) : Dev nD := ⟨k0_dev1 c, k0_dev1_lt c⟩
/-- The device on the other side of the mesh's second axis. -/
def yn (c : Dev nD) : Dev nD := ⟨k0_dev2 c, k0_dev2_lt c⟩

theorem xn_xn (c : Dev nD) : xn (xn c) = c := by revert c; decide +kernel
theorem yn_yn (c : Dev nD) : yn (yn c) = c := by revert c; decide +kernel

/-- The device the first copy of chunk `k` goes to, as the body computes it. -/
def xDev (c : Dev nD) : Fin 4 → Dev nD :=
  ![⟨k0_dev3 c, k0_dev3_lt c⟩, ⟨k0_dev4 c, k0_dev4_lt c⟩, ⟨k0_dev5 c, k0_dev5_lt c⟩, ⟨k0_dev6 c, k0_dev6_lt c⟩]
/-- The device the second copy of chunk `k` goes to, as the body computes it. -/
def yDev (c : Dev nD) : Fin 4 → Dev nD :=
  ![⟨k0_dev7 c, k0_dev7_lt c⟩, ⟨k0_dev8 c, k0_dev8_lt c⟩, ⟨k0_dev9 c, k0_dev9_lt c⟩, ⟨k0_dev10 c, k0_dev10_lt c⟩]

theorem xDev_eq (c : Dev nD) (k : Fin 4) : xDev c k = xn c := by revert c k; decide +kernel
theorem yDev_eq (c : Dev nD) (k : Fin 4) : yDev c k = yn c := by revert c k; decide +kernel

/-! ## Buffers, rectangles, semaphores -/

/-- The staging buffer of the partial sum. -/
abbrev pM : Memref sig .tc .vmem S512x512 .f32 := Memref.whole cc0_stg0_0
/-- The staging buffer of the result. -/
abbrev oM : Memref sig .tc .vmem S512x512 .f32 := Memref.whole cc0_stg1_0
/-- The buffer the first neighbour's rows land in. -/
abbrev xM : Memref sig .tc .vmem S256x512 .f32 := Memref.whole cc0_scratch0
/-- The buffer the second neighbour's rows land in. -/
abbrev yM : Memref sig .tc .vmem S256x512 .f32 := Memref.whole cc0_scratch1

theorem chunk_inb (k : Fin 4) : ∀ a, (![64 * k.val, 0] : Fin 2 → Nat) a + S64x512.size a ≤ S256x512.size a := by
  revert k; decide
/-- Rows 64k … 64k+63 of a 256-row buffer. -/
abbrev chunkR (k : Fin 4) : Rect S256x512 := Rect.unit (s := S256x512) ![64 * k.val, 0] S64x512.size (chunk_inb k)
/-- Chunk `k` of the half of the partial sum that device `c` sends. -/
abbrev rowsR (c : Dev nD) (k : Fin 4) : Rect S512x512 :=
  Rect.unit (s := S512x512) (k0_off1 c (BitVec.ofNat 32 (64 * k.val))) S64x512.size (k0_off1_inb c k)
/-- The half of the rows that device `c` sums with its first neighbour's. -/
abbrev halfR (c : Dev nD) : Rect S512x512 := Rect.unit (s := S512x512) (k0_off2 c) S256x512.size (k0_off2_inb c)
/-- The other half. -/
abbrev otherR (c : Dev nD) : Rect S512x512 := Rect.unit (s := S512x512) (k0_off3 c) S256x512.size (k0_off3_inb c)
/-- All of a 256-row buffer, as the body's loads name it. -/
abbrev allR : Rect S256x512 := Rect.unit (s := S256x512) ![0, 0] S256x512.size inb_S256x512_S256x512_0_0

abbrev xChunk (k : Fin 4) : Memref sig .tc .vmem S64x512 .f32 := xM.slice (chunkR k) (fun _ => rfl)
abbrev yChunk (k : Fin 4) : Memref sig .tc .vmem S64x512 .f32 := yM.slice (chunkR k) (fun _ => rfl)
abbrev pRows (c : Dev nD) (k : Fin 4) : Memref sig .tc .vmem S64x512 .f32 := pM.slice (rowsR c k) (fun _ => rfl)

theorem sem_inb (k : Fin 4) : ∀ a, (![k.val] : Fin 1 → Nat) a + S1.size a ≤ S4.size a := by revert k; decide
/-- Semaphore `k` of an array of four, as the body names it. -/
def semOf (a : DmaSems sig S4) (k : Fin 4) : DmaSem sig :=
  ((a.slice (Rect.unit (s := S4) ![k.val] S1.size (sem_inb k))).squeeze S_ squeezes_S1_S_).sem

/-- The four arrays: the first copies' send and receive semaphores, the second copies'. -/
def semArr : Fin 4 → DmaSems sig S4 := ![cc0_scratch2, cc0_scratch3, cc0_scratch4, cc0_scratch5]
/-- Semaphore `k` of array `a`, by its number. -/
def dsem (a k : Fin 4) : DmaSem sig := ⟨2 + 4 * a.val + k.val, by have := a.isLt; have := k.isLt; show _ < 18; omega⟩
theorem semOf_eq (a k : Fin 4) : semOf (semArr a) k = dsem a k := by revert a k; decide +kernel

abbrev barS : Sem sig := sig.barrier 0 rfl

/-! ## The phases -/

/-- The type of a program of one TensorCore. -/
abbrev Pr (F : FTy → Type) : Type 1 := Prog (TpuEff nD τ sig (Elt F) Λ₀ .tc) PUnit

/-- The first copy of chunk `k`: device `c`'s rows into device `d`'s first landing buffer. -/
def xCopyTo (c d : Dev nD) (k : Fin 4) (K : Pr F) : Pr F :=
  Prog.op (.enqueueDma (pRows c k) (.remote (Dev.tc d) (xChunk k) (.dma (semOf (semArr 0) k))) (.dma (semOf (semArr 1) k))
    (View.wordExact_bits rfl) (View.wordExact_bits rfl) ⟨⟨rfl, Or.inl rfl⟩, trivial⟩) fun _ => K
def xCopy (c : Dev nD) (k : Fin 4) (K : Pr F) : Pr F := xCopyTo c (xDev c k) k K
/-- The second copy of chunk `k`: what landed first, into device `d`'s second landing buffer. -/
def yCopyTo (c d : Dev nD) (k : Fin 4) (K : Pr F) : Pr F :=
  Prog.op (.enqueueDma (xChunk k) (.remote (Dev.tc d) (yChunk k) (.dma (semOf (semArr 2) k))) (.dma (semOf (semArr 3) k))
    (View.wordExact_bits rfl) (View.wordExact_bits rfl) ⟨⟨rfl, Or.inl rfl⟩, trivial⟩) fun _ => K
def yCopy (c : Dev nD) (k : Fin 4) (K : Pr F) : Pr F := yCopyTo c (yDev c k) k K
/-- A wait on semaphore `k` of array `a` for one chunk. -/
def wait (a k : Fin 4) (src dst : Memref sig .tc .vmem S64x512 .f32) (K : Pr F) : Pr F :=
  Prog.op (.waitDma2 (semOf (semArr a) k) src dst (View.wordExact_bits rfl) (View.wordExact_bits rfl)) fun _ => K

/-- Both neighbours are signalled, then both neighbours' signals awaited. -/
def pBarrier (c : Dev nD) (K : Pr F) : Pr F :=
  Prog.op (.semSignal (Dev.tc (xn c)) barS 1) fun _ => Prog.op (.semSignal (Dev.tc (yn c)) barS 1) fun _ => Prog.op (.semWait barS 2) fun _ => K
/-- The four first copies. -/
def pX (c : Dev nD) (K : Pr F) : Pr F := xCopy c 0 (xCopy c 1 (xCopy c 2 (xCopy c 3 K)))
/-- Chunk `k` awaited, then sent on. -/
def hop (c : Dev nD) (k : Fin 4) (K : Pr F) : Pr F := wait 1 k (pRows c k) (xChunk k) (yCopy c k K)
def pY (c : Dev nD) (K : Pr F) : Pr F := hop c 0 (hop c 1 (hop c 2 (hop c 3 K)))
/-- The own half: the sum of the own rows and the rows that landed first, stored. -/
def pSum1 (c : Dev nD) (K : Pr F) : Pr F :=
  Prog.op (.load pM (halfR c).toLoadRect (View.loadsAt_vmem h_S256x512)) fun v =>
  Prog.op (.load xM allR.toLoadRect (View.loadsAt_vmem h_S256x512)) fun w =>
  Prog.op (.load oM (halfR c).toLoadRect (View.loadsAt_vmem h_S256x512)) fun _ =>
  Prog.op (.store oM (halfR c) (k0_pay1 v w) Finset.univ (View.stores_vmem_bits_univ h_S256x512 rfl) (.inl rfl)) fun _ => K
/-- The second landings awaited. -/
def pYWait (K : Pr F) : Pr F :=
  wait 3 0 (xChunk 0) (yChunk 0) (wait 3 1 (xChunk 1) (yChunk 1) (wait 3 2 (xChunk 2) (yChunk 2) (wait 3 3 (xChunk 3) (yChunk 3) K)))
/-- The other half, from the rows that landed second. -/
def pSum2 (c : Dev nD) (K : Pr F) : Pr F :=
  Prog.op (.load pM (otherR c).toLoadRect (View.loadsAt_vmem h_S256x512)) fun v =>
  Prog.op (.load yM allR.toLoadRect (View.loadsAt_vmem h_S256x512)) fun w =>
  Prog.op (.load oM (otherR c).toLoadRect (View.loadsAt_vmem h_S256x512)) fun _ =>
  Prog.op (.store oM (otherR c) (k0_pay2 v w) Finset.univ (View.stores_vmem_bits_univ h_S256x512 rfl) (.inl rfl)) fun _ => K
/-- The two sends of chunk `k` awaited. -/
def drain (c : Dev nD) (k : Fin 4) (K : Pr F) : Pr F := wait 0 k (xChunk k) (pRows c k) (wait 2 k (yChunk k) (xChunk k) K)
def pDrain (c : Dev nD) (K : Pr F) : Pr F := drain c 0 (drain c 1 (drain c 2 (drain c 3 K)))

/-- The whole body. -/
def body : Pr F :=
  Prog.op .deviceId fun c => pBarrier c (pX c (pY c (pSum1 c (pYWait (pSum2 c (pDrain c (.ret ⟨⟩)))))))

set_option maxRecDepth 65536 in
/-- The printed body at a grid point is `body`. -/
theorem body_eq (t : Fin cfg0.N) : bodyAt0 (F := F) t = body := by
  obtain rfl := fin_N0 t
  show cc0_body (F := F) pM _ oM _ xM _ yM _ cc0_scratch2 cc0_scratch3 cc0_scratch4 cc0_scratch5 = body
  rw [cc0_body_eq_skeleton]
  rfl

end Cert.EmbedProof

end
-- ==== Proof.Protocol.lean ====
/-
# The protocol: who waits, who pays, what each landing hands over

Every device has seventeen semaphores that take part, each used for one round.

* The barrier is paid one unit by either neighbour and awaited for two. A neighbour's unit hands over that neighbour's own
  landing buffer, chunk by chunk, at contents not chosen, and that the receive semaphores of that buffer are in use.
* Receive semaphore `k` of the first copies is paid by the first neighbour's copy, and hands back chunk `k` of the first
  landing buffer at the rows that neighbour sent (`X`). Receive semaphore `k` of the second copies: chunk `k` of the second
  landing buffer at what the second neighbour had received (`Y`).
* Send semaphore `k` of either direction is paid by the device's own copy, and hands back the half share of the source that
  the copy was lent.

A device owes its neighbours' receive semaphores and barriers from the start. The levels (barrier 1, first receive 2, second
receive 3) order the waits.
-/
module

public import proofs.«01_k».proof.Proof.Text
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Harness.Basic

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline's rounds over one duty a round, and this protocol's over two. -/
abbrev UU : Type := URounds (GSem nD τ sig) Unit × URounds (GSem nD τ sig) Bool

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Bool) (MT nD τ sig Unit (Elt F) ℕ UU ℕ) := embR

/-! ## Cells -/

abbrev barC (c : Dev nD) : GSem nD τ sig := ((c : Thread nD τ), .reg barS)
abbrev dC (c : Dev nD) (a k : Fin 4) : GSem nD τ sig := ((c : Thread nD τ), .dma (dsem a k))

/-- The array a semaphore number belongs to, and its place there. -/
def arrOf (s : DmaSem sig) : Fin 4 := ⟨(s.val - 2) / 4 % 4, Nat.mod_lt _ (by decide)⟩
def numOf (s : DmaSem sig) : Fin 4 := ⟨(s.val - 2) % 4, Nat.mod_lt _ (by decide)⟩
theorem arrOf_dsem (a k : Fin 4) : arrOf (dsem a k) = a := by revert a k; decide
theorem numOf_dsem (a k : Fin 4) : numOf (dsem a k) = k := by revert a k; decide
theorem two_le_dsem (a k : Fin 4) : 2 ≤ (dsem a k).val := by revert a k; decide

/-- What one chunk's copy credits. -/
abbrev N : ℕ := (xChunk 0).view.dmaCredit
theorem N_pos : 0 < N := View.dmaCredit_pos _ (by decide)

/-! ## Contents -/

/-- The partial sums of all devices. -/
abbrev Parts (F : FTy → Type) : Type := Dev nD → (cc0_stg0_0 : Ref sig .tc).ty.Contents (Elt F)

variable (P : Parts F)

/-- What lands first on `c`: the half of its first neighbour's partial sum that the neighbour sends. -/
def X (c : Dev nD) : (cc0_scratch0 : Ref sig .tc).ty.Contents (Elt F) := (pM.access (halfR (xn c))).read (Elt F) (P (xn c))
/-- What lands second on `c`: what landed first on its second neighbour. -/
def Y (c : Dev nD) : (cc0_scratch1 : Ref sig .tc).ty.Contents (Elt F) := X P (yn c)

/-- Chunk `k` of `c`'s first landing buffer, of its second, and of the rows it sends, at a share and contents. -/
abbrev xPts (c : Dev nD) (k : Fin 4) (q : PosShare TreeShare) (f : (cc0_scratch0 : Ref sig .tc).ty.Contents (Elt F)) : sProp 𝕄 :=
  (xChunk k).view.loc (c : Thread nD τ) ↦[(xChunk k).view.set]{q} f
abbrev yPts (c : Dev nD) (k : Fin 4) (q : PosShare TreeShare) (f : (cc0_scratch1 : Ref sig .tc).ty.Contents (Elt F)) : sProp 𝕄 :=
  (yChunk k).view.loc (c : Thread nD τ) ↦[(yChunk k).view.set]{q} f
abbrev pPts (c : Dev nD) (k : Fin 4) (q : PosShare TreeShare) (f : (cc0_stg0_0 : Ref sig .tc).ty.Contents (Elt F)) : sProp 𝕄 :=
  (pRows c k).view.loc (c : Thread nD τ) ↦[(pRows c k).view.set]{q} f

/-- The share kept for loads while a copy reads, and the share lent to the copy. -/
abbrev kept : PosShare TreeShare := fullShare.left
abbrev lent : PosShare TreeShare := fullShare.right

/-! ## Payloads and schedule -/

/-- What a neighbour's barrier unit hands over: chunk `k` of `d`'s landing buffer, and its receive semaphore in use. -/
def xSlot (d : Dev nD) (k : Fin 4) : sProp 𝕄 := iprop((∃ f, xPts d k fullShare f) ∗ reached ER (dC d 1 k) 0)
def ySlot (d : Dev nD) (k : Fin 4) : sProp 𝕄 := iprop((∃ f, yPts d k fullShare f) ∗ reached ER (dC d 3 k) 0)
def barPay (c : Dev nD) : Bool → sProp 𝕄
  | false => bigSep Finset.univ fun k => xSlot (xn c) k
  | true => bigSep Finset.univ fun k => ySlot (yn c) k
/-- What completing a copy hands to the owner of semaphore `k` of array `a`. -/
def dmaPay (c : Dev nD) (a k : Fin 4) : sProp 𝕄 :=
  match a with
  | 0 => pPts c k lent (P c)
  | 1 => xPts c k fullShare (X P c)
  | 2 => xPts c k lent (X P c)
  | 3 => yPts c k fullShare (Y P c)

/-- The duties of a semaphore in its one round. -/
def dutiesOf : SemLoc sig → Finset Bool
  | .reg _ => Finset.univ
  | .dma s => if 2 ≤ s.val then {false} else ∅
def amountOf : SemLoc sig → ℕ
  | .reg _ => 1
  | .dma _ => N
def payOf (c : Dev nD) (b : Bool) : SemLoc sig → sProp 𝕄
  | .reg _ => barPay c b
  | .dma s => dmaPay P c (arrOf s) (numOf s)

def sched : Rounds.Schedule (GSem nD τ sig) Bool 𝕄 where
  duties g r := if r = 0 ∧ g.1.2 = .tc then dutiesOf g.2 else ∅
  unitless _ := False
  amount g _ _ := amountOf g.2
  payload g _ b := payOf P g.1.1 b g.2
  amount_pos g _ _ _ := by
    match g.2 with
    | .reg _ => exact Nat.one_pos
    | .dma _ => exact N_pos

instance payOf_storable (c : Dev nD) (b : Bool) (s : SemLoc sig) : BI.Storable (upEmb : UEmb _ 𝕄) (payOf P c b s) := by
  unfold payOf
  split
  · unfold barPay xSlot ySlot
    split <;> infer_instance
  · unfold dmaPay
    split <;> infer_instance
instance sched_storable (g : GSem nD τ sig) (r : ℕ) (b : Bool) : BI.Storable (upEmb : UEmb _ 𝕄) ((sched P).payload g r b) :=
  payOf_storable P g.1.1 b g.2

section Facts
variable (c : Dev nD) (a k : Fin 4)

theorem duties_bar : (sched P).duties (barC c) 0 = Finset.univ := by
  show (if (0 : ℕ) = 0 ∧ (barC c).1.2 = .tc then dutiesOf (barC c).2 else ∅) = _
  exact if_pos ⟨rfl, rfl⟩
theorem duties_dma : (sched P).duties (dC c a k) 0 = {false} := by
  show (if (0 : ℕ) = 0 ∧ (dC c a k).1.2 = .tc then dutiesOf (.dma (dsem a k)) else ∅) = _
  rw [if_pos ⟨rfl, rfl⟩]
  exact if_pos (two_le_dsem a k)
theorem duties_later (g : GSem nD τ sig) : ∀ r, 1 ≤ r → (sched P).duties g r = ∅ := fun r hr => if_neg fun h => by omega
theorem amount_bar (b : Bool) : (sched P).amount (barC c) 0 b = 1 := rfl
theorem amount_dma (b : Bool) : (sched P).amount (dC c a k) 0 b = N := rfl
theorem payload_bar (b : Bool) : (sched P).payload (barC c) 0 b = barPay c b := rfl
theorem payload_dma (b : Bool) : (sched P).payload (dC c a k) 0 b = dmaPay P c a k := by
  show dmaPay P c (arrOf (dsem a k)) (numOf (dsem a k)) = _
  rw [arrOf_dsem, numOf_dsem]
theorem expect_bar : (sched P).expect (barC c) 0 = 2 := by
  unfold Schedule.expect Schedule.amountOf
  rw [duties_bar, Finset.sum_congr rfl fun b _ => amount_bar P c b]; rfl
theorem expect_dma : (sched P).expect (dC c a k) 0 = N := by
  unfold Schedule.expect Schedule.amountOf
  rw [duties_dma, Finset.sum_singleton, amount_dma]
theorem rest_bar : bigSep ((sched P).duties (barC c) 0 \ ∅) (fun b => (sched P).payload (barC c) 0 b)
    = iprop(barPay c false ∗ barPay c true) := by
  rw [Finset.sdiff_empty, duties_bar, show (Finset.univ : Finset Bool) = {false, true} from by decide,
    bigSep_insert (by decide), bigSep_singleton]; rfl
theorem rest_dma : bigSep ((sched P).duties (dC c a k) 0 \ ∅) (fun b => (sched P).payload (dC c a k) 0 b) = dmaPay P c a k := by
  rw [Finset.sdiff_empty, duties_dma, bigSep_singleton, payload_dma]

end Facts

/-! ## Levels and dues -/

def L (g : GSem nD τ sig) : Finset Unit := if g.1.2 = .tc then {()} else ∅
def lvOf : SemLoc sig → ℕ
  | .reg _ => 1
  | .dma s => if arrOf s = 1 then 2 else if arrOf s = 3 then 3 else 0
def lv (g : GSem nD τ sig) (_ : Unit) : ℕ := lvOf g.2

theorem L_of_ne (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton.mpr rfl
theorem lv_recv1 (c : Dev nD) (k : Fin 4) : lv (dC c 1 k) () = 2 := by show lvOf _ = 2; unfold lvOf; simp only [arrOf_dsem, if_true]
theorem lv_recv2 (c : Dev nD) (k : Fin 4) : lv (dC c 3 k) () = 3 := by
  show lvOf _ = 3; unfold lvOf; simp only [arrOf_dsem]; decide

/-- Every cell owed on lies above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O : CellTallies nD τ sig Unit} (h : Above n O) (c : Dev nD) (s : SemLoc sig) (k : ℕ)
    (hs : n < lvOf s) : Above n (O + tallyAt ((c : Thread nD τ), s) () k) := fun g u hg => by
  rw [Pi.add_apply, Finsupp.add_apply] at hg
  rcases Nat.add_pos_iff_pos_or_pos.mp hg with hg | hg
  · exact h g u hg
  · rw [tallyAt_apply] at hg
    split at hg
    · next e => rw [e.1]; exact ⟨mem_L c s u, hs⟩
    · exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

/-- A wait at level at most `n` while owing only above `n`. -/
theorem mayWait_above {n : ℕ} {O : CellTallies nD τ sig Unit} (h : Above n O) (c : Dev nD) (s : SemLoc sig) (hs : lvOf s ≤ n) :
    (levAts L lv : sProp 𝕄) ⊢ MayWait (c : Thread nD τ) s () O :=
  MayOwe.of_cut (L := L) (lev := lv) n (fun p hp => by rw [Finset.mem_singleton.mp hp]; exact mem_L c s ()) (fun g u hg => (h g u hg).1)
    (fun p hp => by rw [Finset.mem_singleton.mp hp]; exact hs) (fun g u hg => (h g u hg).2)

/-- What is owed while `n` second copies are outstanding (chunks 4-n … 3). -/
def dueY (c : Dev nD) : ℕ → CellTallies nD τ sig Unit
  | 0 => 0
  | n + 1 => dueY c n + tallyAt (dC (yn c) 3 (Fin.ofNat 4 (3 - n))) () N
/-- What is owed while `n` first copies and all second copies are outstanding. -/
def dueX (c : Dev nD) : ℕ → CellTallies nD τ sig Unit
  | 0 => dueY c 4
  | n + 1 => dueX c n + tallyAt (dC (xn c) 1 (Fin.ofNat 4 (3 - n))) () N
/-- What is owed at launch: also a unit to either neighbour's barrier. -/
def O₀ (c : Dev nD) : CellTallies nD τ sig Unit := dueX c 4 + tallyAt (barC (yn c)) () 1 + tallyAt (barC (xn c)) () 1

theorem above_dueY (c : Dev nD) : ∀ n, Above 2 (dueY c n)
  | 0 => above_zero 2
  | n + 1 => above_add (above_dueY c n) _ _ _ (by rw [show lvOf _ = 3 from lv_recv2 (yn c) _]; decide)
theorem above_dueX (c : Dev nD) : ∀ n, Above 1 (dueX c n)
  | 0 => (above_dueY c 4).mono (by decide)
  | n + 1 => above_add (above_dueX c n) _ _ _ (by rw [show lvOf _ = 2 from lv_recv1 (xn c) _]; decide)
theorem above_O₀ (c : Dev nD) : Above 0 (O₀ c) :=
  above_add (above_add ((above_dueX c 4).mono (by decide)) _ _ _ (by decide)) _ _ _ (by decide)

/-! ## What the launch hands to a device -/

def barEmb : Dev nD ↪ GSem nD τ sig := ⟨fun c => barC c, fun _ _ h => congrArg (fun g : GSem nD τ sig => g.1.1) h⟩
theorem dsem_inj : Function.Injective fun ak : Fin 4 × Fin 4 => dsem ak.1 ak.2 := fun x y h =>
  Prod.ext ((arrOf_dsem _ _).symm.trans ((congrArg arrOf h).trans (arrOf_dsem _ _)))
    ((numOf_dsem _ _).symm.trans ((congrArg numOf h).trans (numOf_dsem _ _)))
/-- The kernel's own semaphores, by array and place. -/
abbrev osem : Fin 4 × Fin 4 → SemLoc sig := fun ak => .dma (dsem ak.1 ak.2)
theorem osem_inj : Function.Injective osem := fun _ _ h => dsem_inj (SemLoc.dma.inj h)
def dmaEmb : Dev nD × (Fin 4 × Fin 4) ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev dmaCells : Finset (GSem nD τ sig) := Finset.univ.map dmaEmb

theorem bar_mem (c : Dev nD) : barC c ∈ (barCells ∪ dmaCells : Finset (GSem nD τ sig)) :=
  Finset.mem_union_left _ (Finset.mem_map_of_mem barEmb (Finset.mem_univ c))
theorem dma_mem (c : Dev nD) (a k : Fin 4) : dC c a k ∈ (barCells ∪ dmaCells : Finset (GSem nD τ sig)) :=
  Finset.mem_union_right _ (Finset.mem_map_of_mem dmaEmb (Finset.mem_univ (c, (a, k))))

/-- What every device may consult: the invariants of all cells under one map of names, and that every barrier is in use. -/
def records (κ : GSem nD τ sig → ℕ) : sProp 𝕄 :=
  iprop((bigSep (barCells ∪ dmaCells) fun g => cellInv ER (sched P) (κ g) g) ∗ bigSep barCells fun g => reached ER g 0)
instance records_persistent (κ : GSem nD τ sig → ℕ) : BI.Persistent (records P κ) := by unfold records; infer_instance

theorem inv_at (κ : GSem nD τ sig → ℕ) {g : GSem nD τ sig} (hg : g ∈ (barCells ∪ dmaCells : Finset (GSem nD τ sig))) :
    (records P κ : sProp 𝕄) ⊢ cellInv ER (sched P) (κ g) g := by
  unfold records; exact (Idealize.SL.BI.sep_and.trans and_elimL).trans (bigSep_elim hg)
theorem reached_bar (κ : GSem nD τ sig → ℕ) (c : Dev nD) : (records P κ : sProp 𝕄) ⊢ reached ER (barC c) 0 := by
  unfold records; exact (Idealize.SL.BI.sep_and.trans and_elimR).trans (bigSep_elim (Finset.mem_map_of_mem barEmb (Finset.mem_univ c)))

/-- A family over the four chunks. -/
abbrev over (Φ : Fin 4 → sProp 𝕄) : sProp 𝕄 := bigSep Finset.univ Φ

/-- The tokens of the duties device `c` pays: to its neighbours' barriers and receive semaphores, to its own send semaphores. -/
def toks (c : Dev nD) : sProp 𝕄 :=
  iprop(dutyTok ER (barC (xn c)) 0 false ∗ dutyTok ER (barC (yn c)) 0 true
    ∗ over (fun k => dutyTok ER (dC c 0 k) 0 false) ∗ over (fun k => dutyTok ER (dC (xn c) 1 k) 0 false)
    ∗ over (fun k => dutyTok ER (dC c 2 k) 0 false) ∗ over (fun k => dutyTok ER (dC (yn c) 3 k) 0 false))

/-- The credits device `c` waits with, from launch. -/
def creds (c : Dev nD) : sProp 𝕄 :=
  iprop(cred (tallyAt (barC c) () 2) ∗ over (fun k => cred (tallyAt (dC c 1 k) () N)) ∗ over (fun k => cred (tallyAt (dC c 3 k) () N)))

/-- From launch to the kernel: the records, the barrier's place, the rights to put the other semaphores to use, the tokens, the credits. -/
def ghost (c : Dev nD) : sProp 𝕄 :=
  iprop(∃ κ, records P κ ∗ atPos ER (barC c) 0 ∅ 0 ∗ (bigSep Finset.univ fun ak : Fin 4 × Fin 4 => openTok ER (dC c ak.1 ak.2))
    ∗ toks c ∗ creds c)

/-- A device's place in the round of each of the semaphores of array `a`. -/
abbrev places (c : Dev nD) (a : Fin 4) (r : ℕ) : sProp 𝕄 := over fun k => atPos ER (dC c a k) r ∅ 0
/-- That all own semaphores are in use. -/
def inUse (c : Dev nD) : sProp 𝕄 := bigSep Finset.univ fun ak : Fin 4 × Fin 4 => reached ER (dC c ak.1 ak.2) 0
instance inUse_persistent (c : Dev nD) : BI.Persistent (inUse (F := F) c) := by unfold inUse; infer_instance
theorem inUse_at (c : Dev nD) (a k : Fin 4) : (inUse c : sProp 𝕄) ⊢ reached ER (dC c a k) 0 :=
  bigSep_elim (Φ := fun ak : Fin 4 × Fin 4 => reached ER (dC c ak.1 ak.2) 0) (Finset.mem_univ (a, k))

/-- A device owing `O`, whatever it has waited on. -/
def owing (c : Dev nD) (O : CellTallies nD τ sig Unit) : sProp 𝕄 := iprop(∃ W, owes (c : Thread nD τ) O W)

end Cert.EmbedProof

end
-- ==== Proof.Contents.lean ====
/-
# The chunks, and what a copy leaves in one

The chunk sets of a landing buffer are disjoint and cover it; the chunk sets of the rows a device sends are disjoint.
`land_x` and `land_y` say that a copy onto chunk `k` leaves there the contents the receiving device's schedule names.
-/
module

public import proofs.«01_k».proof.Proof.Protocol
public import Idealize.ShloMosaic.Lib.Ring
public import Idealize.ShloMosaic.Lib.Pipeline.ValueKit.Geometry

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunk sets -/

theorem rows_off (c : Dev nD) (k : Fin 4) : k0_off1 c (BitVec.ofNat 32 (64 * k.val)) = ![256 * ((c.val / 4) % 2) + 64 * k.val, 0] :=
  k0_off1_eq c k

theorem x_set (k : Fin 4) : (xChunk k).view.set = (chunkR k).set := View.set_slice_whole _ _
theorem y_set (k : Fin 4) : (yChunk k).view.set = (chunkR k).set := View.set_slice_whole _ _
theorem p_set (c : Dev nD) (k : Fin 4) : (pRows c k).view.set = (rowsR c k).set := View.set_slice_whole _ _

theorem chunk_disjoint (k k' : Fin 4) (h : k ≠ k') : Disjoint (chunkR k).set (chunkR k').set :=
  Ring.lead_disjoint (s := S256x512) 0 64 (fun k : Fin 4 => ![64 * k.val, 0]) S64x512.size chunk_inb (fun _ => rfl) rfl k k' h
theorem chunk_cover : Finset.univ.biUnion (fun k => (chunkR k).set) = Finset.univ :=
  Ring.lead_cover (s := S256x512) 0 64 (fun k : Fin 4 => ![64 * k.val, 0]) S64x512.size chunk_inb (fun _ => rfl)
    (by decide) rfl (by decide) rfl

theorem x_disjoint (k k' : Fin 4) (h : k ≠ k') : Disjoint (xChunk k).view.set (xChunk k').view.set := by
  rw [x_set, x_set]; exact chunk_disjoint k k' h
theorem x_cover : Finset.biUnion (β := S256x512.Idx) Finset.univ (fun k => (xChunk k).view.set) = Finset.univ :=
  (Finset.biUnion_congr rfl fun k _ => x_set k).trans chunk_cover
theorem y_disjoint (k k' : Fin 4) (h : k ≠ k') : Disjoint (yChunk k).view.set (yChunk k').view.set := by
  rw [y_set, y_set]; exact chunk_disjoint k k' h
theorem y_cover : Finset.biUnion (β := S256x512.Idx) Finset.univ (fun k => (yChunk k).view.set) = Finset.univ :=
  (Finset.biUnion_congr rfl fun k _ => y_set k).trans chunk_cover
theorem p_disjoint (c : Dev nD) (k k' : Fin 4) (h : k ≠ k') : Disjoint (pRows c k).view.set (pRows c k').view.set := by
  rw [p_set, p_set]
  refine Rect.unit_disjoint 0 ?_
  rw [rows_off, rows_off]
  have : k.val ≠ k'.val := fun e => h (Fin.ext e)
  show 256 * ((c.val / 4) % 2) + 64 * k.val + 64 ≤ 256 * ((c.val / 4) % 2) + 64 * k'.val ∨
    256 * ((c.val / 4) % 2) + 64 * k'.val + 64 ≤ 256 * ((c.val / 4) % 2) + 64 * k.val
  omega

/-! ## What a copy leaves -/

variable (P : Parts F)

/-- Row `j` of chunk `k` of what is sent, read in the sender's partial sum, is row `64k + j` of the half it sends. -/
theorem rows_emb (c : Dev nD) (k : Fin 4) (j : S64x512.Idx) :
    (pRows c k).view.emb j = (pM.access (halfR c)).emb ((xChunk k).view.emb j) := by
  have h1 := congrFun (rows_off c k)
  have h2 := congrFun (k0_off2_eq c)
  funext a
  apply Fin.ext
  refine (ValueKit.view_emb_slice_whole_unit_val cc0_stg0_0 _ _ _ j a).trans
    (Eq.trans ?_ (ValueKit.view_emb_slice_whole_unit_val cc0_stg0_0 _ _ _ ((xChunk k).view.emb j) a).symm)
  refine Eq.trans ?_ (congrArg (k0_off2 c a + ·) (ValueKit.view_emb_slice_whole_unit_val cc0_scratch0 _ _ (chunk_inb k) j a).symm)
  generalize (j a : ℕ) = n
  show k0_off1 c (BitVec.ofNat 32 (64 * k.val)) a + n = k0_off2 c a + (_ + n)
  rw [h1 a, h2 a]
  revert a
  refine Fin.forall_fin_two.mpr ⟨?_, ?_⟩
  · show 256 * ((c.val / 4) % 2) + 64 * k.val + n = 256 * ((c.val / 4) % 2) + (64 * k.val + n)
    omega
  · exact (congrArg (0 + ·) (Nat.zero_add n)).symm

theorem land_x (c : Dev nD) (k : Fin 4) (f : (cc0_scratch0 : Ref sig .tc).ty.Contents (Elt F)) :
    ∀ i ∈ (xChunk k).view.set, (xChunk k).view.write (Elt F) f ((pRows c k).view.read (Elt F) (P c)) Finset.univ i = X P (xn c) i := by
  intro i hi
  obtain ⟨j, -, rfl⟩ := Finset.mem_map.mp hi
  refine (View.write_emb_of_mem (v := (xChunk k).view) (Val := Elt F) f ((pRows c k).view.read (Elt F) (P c)) (Finset.mem_univ j)).trans ?_
  rw [X, xn_xn]
  show P c ((pRows c k).view.emb j) = P c ((pM.access (halfR c)).emb ((xChunk k).view.emb j))
  rw [rows_emb]

theorem land_y (c : Dev nD) (k : Fin 4) (f : (cc0_scratch1 : Ref sig .tc).ty.Contents (Elt F)) :
    ∀ i ∈ (yChunk k).view.set, (yChunk k).view.write (Elt F) f ((xChunk k).view.read (Elt F) (X P c)) Finset.univ i = Y P (yn c) i := by
  intro i hi
  obtain ⟨j, -, rfl⟩ := Finset.mem_map.mp hi
  refine (View.write_emb_of_mem (v := (yChunk k).view) (Val := Elt F) f ((xChunk k).view.read (Elt F) (X P c)) (Finset.mem_univ j)).trans ?_
  rw [Y, yn_yn]
  rfl

/-! ## Landing buffers whole and by chunks -/

theorem x_blocks (c : Dev nD) (q : PosShare TreeShare) (f : (cc0_scratch0 : Ref sig .tc).ty.Contents (Elt F)) :
    (xM.view.loc (c : Thread nD τ) ↦{q} f : sProp 𝕄) = over fun k => xPts c k q f :=
  Ring.pointsTo_blocks (ℓ := xM.view.loc (c : Thread nD τ)) (fun k => (xChunk k).view.set) x_disjoint x_cover f
theorem y_blocks (c : Dev nD) (q : PosShare TreeShare) (f : (cc0_scratch1 : Ref sig .tc).ty.Contents (Elt F)) :
    (yM.view.loc (c : Thread nD τ) ↦{q} f : sProp 𝕄) = over fun k => yPts c k q f :=
  Ring.pointsTo_blocks (ℓ := yM.view.loc (c : Thread nD τ)) (fun k => (yChunk k).view.set) y_disjoint y_cover f
/-- The rows a device sends, of all of its partial sum. -/
abbrev sentSet (c : Dev nD) : Finset (cc0_stg0_0 : Ref sig .tc).ty.Idx := Finset.univ.biUnion fun k => (pRows c k).view.set
theorem p_blocks (c : Dev nD) (q : PosShare TreeShare) (f : (cc0_stg0_0 : Ref sig .tc).ty.Contents (Elt F)) :
    (pM.view.loc (c : Thread nD τ) ↦[sentSet c]{q} f : sProp 𝕄) = over fun k => pPts c k q f :=
  Ring.pointsTo_sub_blocks (ℓ := pM.view.loc (c : Thread nD τ)) (fun k => (pRows c k).view.set) (p_disjoint c) (sentSet c) rfl f

end Cert.EmbedProof

end
-- ==== Proof.Steps.lean ====
/-
# One operation at a time, and four in a row

`chain4` turns a rule for one chunk's operation into a rule for the four chunks' operations in order. The other theorems are
the rules for one operation each: a wait for a chunk (any semaphore), the two copies of a chunk, and the barrier.
-/
module

public import proofs.«01_k».proof.Proof.Contents

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Program `K` run by the TensorCore of device `c` leads to `Q`. -/
abbrev runs (c : Dev nD) (K : Pr F) (Q : PUnit → sProp 𝕄) : sProp 𝕄 :=
  wp frame (wpE (defs₀ (F := F)) 𝒱₀ (c : Thread nD τ) none) Set.univ K Q

theorem over_eq (Φ : Fin 4 → sProp 𝕄) : over Φ = iprop(Φ 0 ∗ Φ 1 ∗ Φ 2 ∗ Φ 3) :=
  bigSep_univ_eq_bigSepL [0, 1, 2, 3] (by decide) (by decide) Φ

/-- Four operations in a row, each taking its own `A k` to `B k` and moving the state `S` on by one. -/
theorem chain4 (c : Dev nD) (Γ : sProp 𝕄) [BI.Persistent Γ] (op : Fin 4 → Pr F → Pr F) (A B : Fin 4 → sProp 𝕄) (S : ℕ → sProp 𝕄)
    (h : ∀ (k : Fin 4) (K : Pr F) (Q : PUnit → sProp 𝕄),
      iprop(Γ ∗ A k ∗ S k.val) ⊢ iprop((B k ∗ S (k.val + 1) -∗ runs c K Q) -∗ runs c (op k K) Q))
    (K : Pr F) (Q : PUnit → sProp 𝕄) :
    iprop(Γ ∗ over A ∗ S 0) ⊢ iprop((over B ∗ S 4 -∗ runs c K Q) -∗ runs c (op 0 (op 1 (op 2 (op 3 K)))) Q) := by
  have h' : ∀ (k : Fin 4) (n m : ℕ), k.val = n → k.val + 1 = m → ∀ K : Pr F,
      iprop(Γ ∗ A k ∗ S n) ⊢ iprop((B k ∗ S m -∗ runs c K Q) -∗ runs c (op k K) Q) := by
    rintro k _ _ rfl rfl K; exact h k K Q
  rw [over_eq, over_eq]
  iintro ⟨#HΓ, ⟨A0, A1, A2, A3⟩, HS⟩ HK
  iapply (h' 0 0 1 rfl rfl) $$ [A0 HS]
  · isplitr; · iexact HΓ
    isplitl [A0]; · iexact A0
    iexact HS
  iintro ⟨B0, HS⟩
  iapply (h' 1 1 2 rfl rfl) $$ [A1 HS]
  · isplitr; · iexact HΓ
    isplitl [A1]; · iexact A1
    iexact HS
  iintro ⟨B1, HS⟩
  iapply (h' 2 2 3 rfl rfl) $$ [A2 HS]
  · isplitr; · iexact HΓ
    isplitl [A2]; · iexact A2
    iexact HS
  iintro ⟨B2, HS⟩
  iapply (h' 3 3 4 rfl rfl) $$ [A3 HS]
  · isplitr; · iexact HΓ
    isplitl [A3]; · iexact A3
    iexact HS
  iintro ⟨B3, HS⟩
  iapply HK
  isplitl [B0 B1 B2 B3]
  · isplitl [B0]; · iexact B0
    isplitl [B1]; · iexact B1
    isplitl [B2]; · iexact B2
    iexact B3
  iexact HS

/-! ## The rules -/

variable (P : Parts F) (κ : GSem nD τ sig → ℕ) (c : Dev nD)

/-- What may be consulted at every step: the records, that the own semaphores are in use, the levels. -/
def ctx : sProp 𝕄 := iprop(records P κ ∗ inUse c ∗ levAts L lv)
instance ctx_persistent : BI.Persistent (ctx P κ c) := by unfold ctx; infer_instance

/-- A wait for one chunk on any of the own semaphores: its payload comes back. -/
theorem wait_step (a k : Fin 4) (src dst : Memref sig .tc .vmem S64x512 .f32) (hN : dst.view.dmaCredit = N)
    (O : CellTallies nD τ sig Unit) (hO : (levAts L lv : sProp 𝕄) ⊢ MayWait (c : Thread nD τ) (.dma (dsem a k)) () O)
    (K : Pr F) (Q : PUnit → sProp 𝕄) :
    iprop(ctx P κ c ∗ (cred (tallyAt (dC c a k) () N) ∗ atPos ER (dC c a k) 0 ∅ 0) ∗ owing c O)
      ⊢ iprop(((atPos ER (dC c a k) 1 ∅ 0 ∗ dmaPay P c a k) ∗ owing c O -∗ runs c K Q) -∗ runs c (wait a k src dst K) Q) := by
  rw [show wait a k src dst K = _ from rfl]
  unfold wait ctx owing
  rw [semOf_eq]
  iintro ⟨⟨#Hrec, -, #Hlev⟩, ⟨Hc, Hat⟩, ⟨%W, HO⟩⟩ HK
  iapply (Rounds.wp_wait_rest_token 𝒱₀ ER (sched P) (c : Thread nD τ) none (κ := κ (dC c a k))
      (wpE_waitDma2_eq (src := src) (dst := dst) 𝒱₀ (c : Thread nD τ) none Set.univ) (Set.mem_univ _) () (O := O) (W := W) (R := 0) (m := 0) (T := ∅)
      (by rw [expect_dma, Nat.zero_add, hN])) $$ [Hc HO Hat]
  · isplitr; · iapply (inv_at P κ (dma_mem c a k)); iexact Hrec
    isplitl [Hc]; · rw [hN]; iexact Hc
    isplitl [HO]; · iexact HO
    isplitr; · iapply hO; iexact Hlev
    iexact Hat
  iintro ⟨HO, Hat, -, Hpay⟩
  ihave Hp := (Entails.of_eq (rest_dma P c a k)) $$ Hpay
  iapply HK
  isplitl [Hat Hp]
  · isplitl [Hat]; · iexact Hat
    iexact Hp
  iexists _; iexact HO

theorem mayWait_zero' (s : SemLoc sig) : (levAts L lv : sProp 𝕄) ⊢ MayWait (c : Thread nD τ) s () 0 := by
  rw [MayWait_zero]; iintro -; iempintro

theorem xCopy_eq (k : Fin 4) (K : Pr F) : xCopy c k K =
    Prog.op (.enqueueDma (pRows c k) (.remote (Dev.tc (xn c)) (xChunk k) (.dma (dsem 0 k))) (.dma (dsem 1 k))
      (View.wordExact_bits rfl) (View.wordExact_bits rfl) ⟨⟨rfl, Or.inl rfl⟩, trivial⟩) fun _ => K := by
  unfold xCopy
  rw [xDev_eq]
  unfold xCopyTo
  simp only [semOf_eq]
theorem yCopy_eq (k : Fin 4) (K : Pr F) : yCopy c k K =
    Prog.op (.enqueueDma (xChunk k) (.remote (Dev.tc (yn c)) (yChunk k) (.dma (dsem 2 k))) (.dma (dsem 3 k))
      (View.wordExact_bits rfl) (View.wordExact_bits rfl) ⟨⟨rfl, Or.inl rfl⟩, trivial⟩) fun _ => K := by
  unfold yCopy
  rw [yDev_eq]
  unfold yCopyTo
  simp only [semOf_eq]

/-- The first copy of chunk `k`: needs the rows' lent share, the neighbour's slot, and the tokens of the two semaphores. -/
theorem xCopy_step (k : Fin 4) (O' O : CellTallies nD τ sig Unit) (hO : O' = O + tallyAt (dC (xn c) 1 k) () N)
    (K : Pr F) (Q : PUnit → sProp 𝕄) :
    iprop(ctx P κ c ∗ (pPts c k lent (P c) ∗ xSlot (xn c) k ∗ dutyTok ER (dC c 0 k) 0 false ∗ dutyTok ER (dC (xn c) 1 k) 0 false) ∗ owing c O')
      ⊢ iprop((cred (tallyAt (dC c 0 k) () N) ∗ owing c O -∗ runs c K Q) -∗ runs c (xCopy c k K) Q) := by
  rw [xCopy_eq]
  unfold ctx owing xSlot
  iintro ⟨⟨#Hrec, #Huse, -⟩, ⟨Hp, ⟨⟨%f, Hx⟩, #HrN⟩, HtS, HtN⟩, ⟨%W, HO⟩⟩ HK
  iapply (Rounds.wp_send_pointsTo 𝒱₀ ER (sched P) (c : Thread nD τ) none (c' := (xn c : Thread nD τ)) (src := pRows c k) (dst := xChunk k)
      (sS := .dma (dsem 0 k)) (sem := .dma (dsem 1 k)) (q := lent) (fs := P c) (κ₁ := κ (dC c 0 k)) (κ₂ := κ (dC (xn c) 1 k))
      (r₁ := 0) (r₂ := 0) (d₁ := false) (d₂ := false) (fd := f)
      (by rw [duties_dma]; exact Finset.mem_singleton_self _) (by rw [duties_dma]; exact Finset.mem_singleton_self _)
      () () N rfl (amount_dma P c 0 k false) (amount_dma P (xn c) 1 k false) O hO (W := W)
      (by rw [payload_dma]; exact BI.Entails.refl _)
      (by rw [payload_dma]; exact Entails.of_eq (pointsTo_congr (land_x P c k f)))) $$ [Hp Hx HO HtS HtN]
  · isplitr; · iapply (inv_at P κ (dma_mem c 0 k)); iexact Hrec
    isplitr; · iapply (inv_at P κ (dma_mem (xn c) 1 k)); iexact Hrec
    isplitl [Hp]; · iexact Hp
    isplitl [Hx]; · iexact Hx
    isplitl [HO]; · iexact HO
    isplitl [HtS]; · iexact HtS
    isplitr; · iapply (inUse_at c 0 k); iexact Huse
    isplitl [HtN]; · iexact HtN
    iexact HrN
  iintro ⟨Hc, HO⟩
  iapply HK
  isplitl [Hc]; · iexact Hc
  iexists _; iexact HO

/-- The second copy of chunk `k`, of what landed first. -/
theorem yCopy_step (k : Fin 4) (O' O : CellTallies nD τ sig Unit) (hO : O' = O + tallyAt (dC (yn c) 3 k) () N)
    (K : Pr F) (Q : PUnit → sProp 𝕄) :
    iprop(ctx P κ c ∗ (xPts c k lent (X P c) ∗ ySlot (yn c) k ∗ dutyTok ER (dC c 2 k) 0 false ∗ dutyTok ER (dC (yn c) 3 k) 0 false) ∗ owing c O')
      ⊢ iprop((cred (tallyAt (dC c 2 k) () N) ∗ owing c O -∗ runs c K Q) -∗ runs c (yCopy c k K) Q) := by
  rw [yCopy_eq]
  unfold ctx owing ySlot
  iintro ⟨⟨#Hrec, #Huse, -⟩, ⟨Hx, ⟨⟨%f, Hy⟩, #HrN⟩, HtS, HtN⟩, ⟨%W, HO⟩⟩ HK
  iapply (Rounds.wp_send_pointsTo 𝒱₀ ER (sched P) (c : Thread nD τ) none (c' := (yn c : Thread nD τ)) (src := xChunk k) (dst := yChunk k)
      (sS := .dma (dsem 2 k)) (sem := .dma (dsem 3 k)) (q := lent) (fs := X P c) (κ₁ := κ (dC c 2 k)) (κ₂ := κ (dC (yn c) 3 k))
      (r₁ := 0) (r₂ := 0) (d₁ := false) (d₂ := false) (fd := f)
      (by rw [duties_dma]; exact Finset.mem_singleton_self _) (by rw [duties_dma]; exact Finset.mem_singleton_self _)
      () () N rfl (amount_dma P c 2 k false) (amount_dma P (yn c) 3 k false) O hO (W := W)
      (by rw [payload_dma]; exact BI.Entails.refl _)
      (by rw [payload_dma]; exact Entails.of_eq (pointsTo_congr (land_y P c k f)))) $$ [Hx Hy HO HtS HtN]
  · isplitr; · iapply (inv_at P κ (dma_mem c 2 k)); iexact Hrec
    isplitr; · iapply (inv_at P κ (dma_mem (yn c) 3 k)); iexact Hrec
    isplitl [Hx]; · iexact Hx
    isplitl [Hy]; · iexact Hy
    isplitl [HO]; · iexact HO
    isplitl [HtS]; · iexact HtS
    isplitr; · iapply (inUse_at c 2 k); iexact Huse
    isplitl [HtN]; · iexact HtN
    iexact HrN
  iintro ⟨Hc, HO⟩
  iapply HK
  isplitl [Hc]; · iexact Hc
  iexists _; iexact HO

/-- The barrier: either landing buffer goes to the neighbour that writes it, the neighbours' landing buffers come. -/
theorem barrier_step (K : Pr F) (Q : PUnit → sProp 𝕄) :
    iprop(ctx P κ c ∗ (over (xSlot c) ∗ over (ySlot c) ∗ dutyTok ER (barC (xn c)) 0 false ∗ dutyTok ER (barC (yn c)) 0 true
        ∗ cred (tallyAt (barC c) () 2) ∗ atPos ER (barC c) 0 ∅ 0) ∗ owing c (O₀ c))
      ⊢ iprop((atPos ER (barC c) 1 ∅ 0 ∗ over (xSlot (xn c)) ∗ over (ySlot (yn c)) ∗ owing c (dueX c 4) -∗ runs c K Q)
        -∗ runs c (pBarrier c K) Q) := by
  unfold ctx owing pBarrier
  iintro ⟨⟨#Hrec, #Huse, #Hlev⟩, ⟨Hx, Hy, HtX, HtY, Hc, Hat⟩, ⟨%W, HO⟩⟩ HK
  iapply (Rounds.wp_signal 𝒱₀ ER (sched P) (c : Thread nD τ) none (dst := (xn c : Thread nD τ)) (sem := barS) (r := 0) (d := false) (κ := κ (barC (xn c)))
      (by rw [duties_bar]; exact Finset.mem_univ _) (amount_bar P (xn c) false) () (dueX c 4 + tallyAt (barC (yn c)) () 1) rfl) $$ [HO HtX Hx]
  · isplitr; · iapply (inv_at P κ (bar_mem (xn c))); iexact Hrec
    isplitl [HO]; · iexact HO
    isplitl [HtX]; · iexact HtX
    isplitl [Hx]; · rw [payload_bar]; unfold barPay; rw [xn_xn]; iexact Hx
    iapply (reached_bar P κ (xn c)); iexact Hrec
  iintro HO
  iapply (Rounds.wp_signal 𝒱₀ ER (sched P) (c : Thread nD τ) none (dst := (yn c : Thread nD τ)) (sem := barS) (r := 0) (d := true) (κ := κ (barC (yn c)))
      (by rw [duties_bar]; exact Finset.mem_univ _) (amount_bar P (yn c) true) () (dueX c 4) rfl) $$ [HO HtY Hy]
  · isplitr; · iapply (inv_at P κ (bar_mem (yn c))); iexact Hrec
    isplitl [HO]; · iexact HO
    isplitl [HtY]; · iexact HtY
    isplitl [Hy]; · rw [payload_bar]; unfold barPay; rw [yn_yn]; iexact Hy
    iapply (reached_bar P κ (yn c)); iexact Hrec
  iintro HO
  iapply (Rounds.wp_wait_rest_token 𝒱₀ ER (sched P) (c : Thread nD τ) none (κ := κ (barC c))
      (wpE_semWait_eq 𝒱₀ (c : Thread nD τ) none Set.univ) (Set.mem_univ _) () (O := dueX c 4) (W := W) (R := 0) (m := 0) (T := ∅)
      ((Nat.zero_add 2).trans (expect_bar P c).symm)) $$ [Hc HO Hat]
  · isplitr; · iapply (inv_at P κ (bar_mem c)); iexact Hrec
    isplitl [Hc]; · iexact Hc
    isplitl [HO]; · iexact HO
    isplitr; · iapply (mayWait_above (above_dueX c 4) c (.reg barS) (by decide)); iexact Hlev
    iexact Hat
  iintro ⟨HO, Hat, -, Hpay⟩
  ihave Hp := (Entails.of_eq (rest_bar P c)) $$ Hpay
  unfold barPay
  icases Hp with ⟨Hx, Hy⟩
  iapply HK
  isplitl [Hat]; · iexact Hat
  isplitl [Hx]; · iexact Hx
  isplitl [Hy]; · iexact Hy
  iexists _; iexact HO

end Cert.EmbedProof

end
-- ==== Proof.Sums.lean ====
/-
# The two sums stored

`sums P c f` is the result's staging buffer, at first `f`, after both sums are stored. The two stores cover the buffer, so `f`
does not matter: the result is `outV P c`. `sum1_step` and `sum2_step` are the rules for the two halves' loads and store.
-/
module

public import proofs.«01_k».proof.Proof.Steps

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-- The contents of the result's staging buffer. -/
abbrev OutC (F : FTy → Type) : Type := (cc0_stg1_0 : Ref sig .tc).ty.Contents (Elt F)

/-- The first sum: the own half of the rows and what landed first. -/
def add1 : S256x512.Idx → Elt F .f32 :=
  k0_pay1 ((pM.access (halfR c)).read (Elt F) (P c)) ((xM.access allR).read (Elt F) (X P c))
/-- The second sum: the other half and what landed second. -/
def add2 : S256x512.Idx → Elt F .f32 :=
  k0_pay2 ((pM.access (otherR c)).read (Elt F) (P c)) ((yM.access allR).read (Elt F) (Y P c))
def put1 (f : OutC F) : OutC F := (oM.access (halfR c)).write (Elt F) f (add1 P c) Finset.univ
def put2 (f : OutC F) : OutC F := (oM.access (otherR c)).write (Elt F) f (add2 P c) Finset.univ
def sums (f : OutC F) : OutC F := put2 P c (put1 P c f)

/-- Every row lies in the own half or in the other. -/
theorem half_or_other (i : S512x512.Idx) : i ∈ (halfR c).set ∨ i ∈ (otherR c).set := by
  rw [Rect.mem_set_unit, Rect.mem_set_unit, k0_off2_eq, k0_off3_eq]
  have h0 : (i 0).val < 512 := (i 0).isLt
  have h1 : (i 1).val < 512 := (i 1).isLt
  rcases Nat.mod_two_eq_zero_or_one (c.val / 4) with h | h <;> rw [h] <;>
    rcases Nat.lt_or_ge (i 0).val 256 with hi | hi
  · exact .inl (Fin.forall_fin_two.mpr ⟨⟨Nat.zero_le _, hi⟩, ⟨Nat.zero_le _, h1⟩⟩)
  · exact .inr (Fin.forall_fin_two.mpr ⟨⟨hi, h0⟩, ⟨Nat.zero_le _, h1⟩⟩)
  · exact .inr (Fin.forall_fin_two.mpr ⟨⟨Nat.zero_le _, hi⟩, ⟨Nat.zero_le _, h1⟩⟩)
  · exact .inl (Fin.forall_fin_two.mpr ⟨⟨hi, h0⟩, ⟨Nat.zero_le _, h1⟩⟩)

theorem half_set : (oM.access (halfR c)).set = (halfR c).set := View.set_slice_whole _ _
theorem other_set : (oM.access (otherR c)).set = (otherR c).set := View.set_slice_whole _ _

/-- The result: both halves summed. -/
def outV : OutC F := sums P c (P c)

theorem sums_eq (f : OutC F) : sums P c f = outV P c := by
  unfold outV sums
  funext i
  by_cases h2 : i ∈ (oM.access (otherR c)).set
  · obtain ⟨j, -, rfl⟩ := Finset.mem_map.mp h2
    unfold put2
    exact (View.write_emb_of_mem (v := oM.access (otherR c)) (Val := Elt F) _ _ (Finset.mem_univ j)).trans
      (View.write_emb_of_mem (v := oM.access (otherR c)) (Val := Elt F) _ _ (Finset.mem_univ j)).symm
  · have h1 : i ∈ (oM.access (halfR c)).set := by
      rw [half_set]; rw [other_set] at h2
      exact (half_or_other c i).resolve_right h2
    have off : ∀ f : OutC F, put2 P c f i = f i := fun f =>
      View.write_of_not_mem (v := oM.access (otherR c)) (Val := Elt F) f _ _ h2
    rw [off, off]
    obtain ⟨j, -, rfl⟩ := Finset.mem_map.mp h1
    unfold put1
    exact (View.write_emb_of_mem (v := oM.access (halfR c)) (Val := Elt F) _ _ (Finset.mem_univ j)).trans
      (View.write_emb_of_mem (v := oM.access (halfR c)) (Val := Elt F) _ _ (Finset.mem_univ j)).symm

/-- The buffers of device `c` held whole. -/
abbrev pAll (q : PosShare TreeShare) : sProp 𝕄 := pM.view.loc (c : Thread nD τ) ↦{q} (P c)
abbrev xAll (q : PosShare TreeShare) (f : (cc0_scratch0 : Ref sig .tc).ty.Contents (Elt F)) : sProp 𝕄 := xM.view.loc (c : Thread nD τ) ↦{q} f
abbrev yAll (q : PosShare TreeShare) (f : (cc0_scratch1 : Ref sig .tc).ty.Contents (Elt F)) : sProp 𝕄 := yM.view.loc (c : Thread nD τ) ↦{q} f
abbrev oAll (f : OutC F) : sProp 𝕄 := oM.view.loc (c : Thread nD τ) ↦{fullShare} f

theorem sum1_step (q q' : PosShare TreeShare) (f : OutC F) (K : Pr F) (Q : PUnit → sProp 𝕄) :
    iprop(pAll P c q ∗ xAll c q' (X P c) ∗ oAll c f)
      ⊢ iprop((pAll P c q ∗ xAll c q' (X P c) ∗ oAll c (put1 P c f) -∗ runs c K Q) -∗ runs c (pSum1 c K) Q) := by
  unfold pSum1
  iintro ⟨Hp, Hx, Ho⟩ HK
  iapply (wp_load_rect 𝒱₀ (c : Thread nD τ) none Set.univ (m := pM) (r := halfR c) (Finset.subset_univ _)) $$ Hp; iintro Hp
  iapply (wp_load_rect 𝒱₀ (c : Thread nD τ) none Set.univ (m := xM) (r := allR) (Finset.subset_univ _)) $$ Hx; iintro Hx
  iapply (wp_load_rect 𝒱₀ (c : Thread nD τ) none Set.univ (m := oM) (r := halfR c) (Finset.subset_univ _)) $$ Ho; iintro Ho
  iapply (wp_store 𝒱₀ (c : Thread nD τ) none Set.univ (m := oM) (r := halfR c) (Mk := Finset.univ) (Finset.subset_univ _)) $$ Ho; iintro Ho
  iapply HK
  isplitl [Hp]; · iexact Hp
  isplitl [Hx]; · iexact Hx
  iexact Ho

theorem sum2_step (q q' : PosShare TreeShare) (f : OutC F) (K : Pr F) (Q : PUnit → sProp 𝕄) :
    iprop(pAll P c q ∗ yAll c q' (Y P c) ∗ oAll c f)
      ⊢ iprop((pAll P c q ∗ yAll c q' (Y P c) ∗ oAll c (put2 P c f) -∗ runs c K Q) -∗ runs c (pSum2 c K) Q) := by
  unfold pSum2
  iintro ⟨Hp, Hy, Ho⟩ HK
  iapply (wp_load_rect 𝒱₀ (c : Thread nD τ) none Set.univ (m := pM) (r := otherR c) (Finset.subset_univ _)) $$ Hp; iintro Hp
  iapply (wp_load_rect 𝒱₀ (c : Thread nD τ) none Set.univ (m := yM) (r := allR) (Finset.subset_univ _)) $$ Hy; iintro Hy
  iapply (wp_load_rect 𝒱₀ (c : Thread nD τ) none Set.univ (m := oM) (r := otherR c) (Finset.subset_univ _)) $$ Ho; iintro Ho
  iapply (wp_store 𝒱₀ (c : Thread nD τ) none Set.univ (m := oM) (r := otherR c) (Mk := Finset.univ) (Finset.subset_univ _)) $$ Ho; iintro Ho
  iapply HK
  isplitl [Hp]; · iexact Hp
  isplitl [Hy]; · iexact Hy
  iexact Ho

end Cert.EmbedProof

end
-- ==== Proof.Total.lean ====
/-
# The result, entry by entry

Every entry of the result is the device's own partial sum's plus another's: the first neighbour's in the half that travelled once, and in the
half that travelled twice the first neighbour's of the second neighbour.
-/
module

public import proofs.«01_k».proof.Proof.Sums

@[expose] public section

noncomputable section

namespace Cert.EmbedProof

open Cert.KernelIdeal Cert.KernelIdeal.Gen
open Idealize.ShloMosaic Idealize.ShloMosaic.TcCoe

variable {F : FTy → Type} [FloatOps F]

variable (P : Parts F) (c : Dev nD)

theorem half_of_x : k0_off2 (xn c) = k0_off2 c := by
  rw [k0_off2_eq, k0_off2_eq, show (xn c).val / 4 % 2 = c.val / 4 % 2 from by revert c; decide +kernel]
theorem half_of_xy : k0_off2 (xn (yn c)) = k0_off3 c := by
  rw [k0_off2_eq, k0_off3_eq]
  revert c; decide +kernel

/-- The place in the whole of an entry of a half, by the half's first row. -/
theorem half_place (d : Dev nD) {off : Fin 2 → ℕ} (inb : ∀ a, off a + S256x512.size a ≤ S512x512.size a) (h : k0_off2 d = off)
    (j : S256x512.Idx) :
    (pM.access (halfR d)).emb j = (oM.access (Rect.unit (s := S512x512) off S256x512.size inb)).emb j := by
  funext a
  apply Fin.ext
  refine (ValueKit.view_emb_slice_whole_unit_val cc0_stg0_0 _ _ _ j a).trans
    (Eq.trans ?_ (ValueKit.view_emb_slice_whole_unit_val cc0_stg1_0 _ _ inb j a).symm)
  exact congrArg (· + (j a : ℕ)) (congrFun h a)

/-- Reading a landing buffer whole reads it. -/
theorem all_place (j : S256x512.Idx) : (xM.access allR).emb j = j := by
  funext a
  apply Fin.ext
  refine (ValueKit.view_emb_slice_whole_unit_val cc0_scratch0 _ _ _ j a).trans ?_
  revert a
  exact Fin.forall_fin_two.mpr ⟨Nat.zero_add _, Nat.zero_add _⟩

theorem add1_at (j : S256x512.Idx) : add1 P c j = FloatOps.addf (P c ((oM.access (halfR c)).emb j)) (P (xn c) ((oM.access (halfR c)).emb j)) := by
  have own := congrFun (shapeCast_self ((pM.access (halfR c)).read (Elt F) (P c)) shapeCasts_S256x512_S256x512) j
  have other : P (xn c) ((pM.access (halfR (xn c))).emb ((xM.access allR).emb j)) = P (xn c) ((oM.access (halfR c)).emb j) := by
    rw [all_place]; exact congrArg (P (xn c)) (half_place (xn c) (k0_off2_inb c) (half_of_x c) j)
  exact congrArg₂ FloatOps.addf own other

theorem add2_at (j : S256x512.Idx) :
    add2 P c j = FloatOps.addf (P c ((oM.access (otherR c)).emb j)) (P (xn (yn c)) ((oM.access (otherR c)).emb j)) := by
  have own := congrFun (shapeCast_self ((pM.access (otherR c)).read (Elt F) (P c)) shapeCasts_S256x512_S256x512) j
  have other : P (xn (yn c)) ((pM.access (halfR (xn (yn c)))).emb ((xM.access allR).emb j)) = P (xn (yn c)) ((oM.access (otherR c)).emb j) := by
    rw [all_place]; exact congrArg (P (xn (yn c))) (half_place (xn (yn c)) (k0_off3_inb c) (half_of_xy c) j)
  exact congrArg₂ FloatOps.addf own other

/-- The result's entry at `i`: the device's own partial sum plus that of the first neighbour, or of the first neighbour's second neighbour. -/
theorem outV_at (i : S512x512.Idx) :
    outV P c i = FloatOps.addf (P c i) (P (xn c) i) ∨ outV P c i = FloatOps.addf (P c i) (P (xn (yn c)) i) := by
  unfold outV sums
  by_cases h2 : i ∈ (oM.access (otherR c)).set
  · right
    obtain ⟨j, -, rfl⟩ := Finset.mem_map.mp h2
    unfold put2
    exact (View.write_emb_of_mem (v := oM.access (otherR c)) (Val := Elt F) _ _ (Finset.mem_univ j)).trans (add2_at P c j)
  · left
    have h1 : i ∈ (oM.access (halfR c)).set := by
      rw [half_set]; rw [other_set] at h2
      exact (half_or_other c i).resolve_right h2
    refine (View.write_of_not_mem (v := oM.access (otherR c)) (Val := Elt F) _ _ _ h2).trans ?_
    obtain ⟨j, -, rfl⟩ := Finset.mem_map.mp h1
    unfold put1
    exact (View.write_emb_of_mem (v := oM.access (halfR c)) (Val := Elt F) _ _ (Finset.mem_univ j)).trans (add1_at P c j)

end Cert.EmbedProof

end
-- ==== Proof.Body.lean ====
/-
# The body from start to end

Each phase of four operations is an instance of `chain4`. `body_run` composes the phases: from the partial sum staged, the
landing buffers at any contents and the ghost state of one device, the body returns the partial sum unchanged, the result's
buffer at `outV`, every semaphore awaited once, and nothing owed.
-/
module

public import proofs.«01_k».proof.Proof.Sums

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (κ : GSem nD τ sig → ℕ) (c : Dev nD)

/-- The right to await semaphore `k` of array `a`: its credit and the place before its round. -/
abbrev due (a k : Fin 4) : sProp 𝕄 := iprop(cred (tallyAt (dC c a k) () N) ∗ atPos ER (dC c a k) 0 ∅ 0)
/-- The credit a copy leaves for the wait on semaphore `k` of array `a`. -/
abbrev cr (a k : Fin 4) : sProp 𝕄 := cred (tallyAt (dC c a k) () N)
/-- The place before, and after, the round of semaphore `k` of array `a`. -/
abbrev pos (r : ℕ) (a k : Fin 4) : sProp 𝕄 := atPos ER (dC c a k) r ∅ 0
abbrev tok (d : Dev nD) (a k : Fin 4) : sProp 𝕄 := dutyTok ER (dC d a k) 0 false

/-! ## The phases -/

theorem dueX_step (k : Fin 4) : dueX c (4 - k.val) = dueX c (4 - (k.val + 1)) + tallyAt (dC (xn c) 1 k) () N :=
  match k with | 0 => rfl | 1 => rfl | 2 => rfl | 3 => rfl
theorem dueY_step (k : Fin 4) : dueY c (4 - k.val) = dueY c (4 - (k.val + 1)) + tallyAt (dC (yn c) 3 k) () N :=
  match k with | 0 => rfl | 1 => rfl | 2 => rfl | 3 => rfl

theorem x_phase (K : Pr F) (Q : PUnit → sProp 𝕄) :
    iprop(ctx P κ c ∗ over (fun k => iprop(pPts c k lent (P c) ∗ xSlot (xn c) k ∗ tok c 0 k ∗ tok (xn c) 1 k)) ∗ owing c (dueX c 4))
      ⊢ iprop((over (cr c 0) ∗ owing c (dueY c 4) -∗ runs c K Q) -∗ runs c (pX c K) Q) :=
  chain4 c (ctx P κ c) (xCopy c) _ (cr c 0) (fun n => owing c (dueX c (4 - n)))
    (fun k K Q => xCopy_step P κ c k _ _ (dueX_step c k) K Q) K Q

/-- Chunk `k` awaited and sent on: a share of it is kept. -/
theorem hop_step (k : Fin 4) (K : Pr F) (Q : PUnit → sProp 𝕄) :
    iprop(ctx P κ c ∗ (due c 1 k ∗ ySlot (yn c) k ∗ tok c 2 k ∗ tok (yn c) 3 k) ∗ owing c (dueY c (4 - k.val)))
      ⊢ iprop(((pos c 1 1 k ∗ xPts c k kept (X P c) ∗ cr c 2 k) ∗ owing c (dueY c (4 - (k.val + 1))) -∗ runs c K Q)
        -∗ runs c (hop c k K) Q) := by
  unfold hop
  iintro ⟨#HΓ, ⟨Hd, Hy, HtS, HtN⟩, HO⟩ HK
  iapply (wait_step P κ c 1 k (pRows c k) (xChunk k) rfl (dueY c (4 - k.val))
    (mayWait_above (above_dueY c _) c (.dma (dsem 1 k)) (le_of_eq (lv_recv1 c k))) _ Q) $$ [Hd HO]
  · isplitr; · iexact HΓ
    isplitl [Hd]; · iexact Hd
    iexact HO
  iintro ⟨⟨Hat, Hx⟩, HO⟩
  unfold dmaPay
  ihave Hx := (pointsTo_share (PosShare.mem_left_op_right fullShare)).1 $$ Hx
  icases Hx with ⟨HxK, HxL⟩
  iapply (yCopy_step P κ c k _ _ (dueY_step c k) K Q) $$ [HxL Hy HtS HtN HO]
  · isplitr; · iexact HΓ
    isplitr [HO]
    · isplitl [HxL]; · iexact HxL
      isplitl [Hy]; · iexact Hy
      isplitl [HtS]; · iexact HtS
      iexact HtN
    iexact HO
  iintro ⟨Hc, HO⟩
  iapply HK
  isplitr [HO]
  · isplitl [Hat]; · iexact Hat
    isplitl [HxK]; · iexact HxK
    iexact Hc
  iexact HO

theorem y_phase (K : Pr F) (Q : PUnit → sProp 𝕄) :
    iprop(ctx P κ c ∗ over (fun k => iprop(due c 1 k ∗ ySlot (yn c) k ∗ tok c 2 k ∗ tok (yn c) 3 k)) ∗ owing c (dueY c 4))
      ⊢ iprop((over (fun k => iprop(pos c 1 1 k ∗ xPts c k kept (X P c) ∗ cr c 2 k)) ∗ owing c 0 -∗ runs c K Q) -∗ runs c (pY c K) Q) :=
  chain4 c (ctx P κ c) (hop c) _ (fun k => iprop(pos c 1 1 k ∗ xPts c k kept (X P c) ∗ cr c 2 k)) (fun n => owing c (dueY c (4 - n)))
    (fun k K Q => hop_step P κ c k K Q) K Q

theorem yWait_phase (K : Pr F) (Q : PUnit → sProp 𝕄) :
    iprop(ctx P κ c ∗ over (due c 3) ∗ owing c 0)
      ⊢ iprop((over (fun k => iprop(pos c 1 3 k ∗ yPts c k fullShare (Y P c))) ∗ owing c 0 -∗ runs c K Q) -∗ runs c (pYWait K) Q) :=
  chain4 c (ctx P κ c) (fun k K => wait 3 k (xChunk k) (yChunk k) K) _ (fun k => iprop(pos c 1 3 k ∗ yPts c k fullShare (Y P c)))
    (fun _ => owing c 0) (fun k K Q => wait_step P κ c 3 k (xChunk k) (yChunk k) rfl 0 (mayWait_zero' c _) K Q) K Q

/-- The two sends of chunk `k` awaited: both lent shares come back. -/
theorem drain_step (k : Fin 4) (K : Pr F) (Q : PUnit → sProp 𝕄) :
    iprop(ctx P κ c ∗ (due c 0 k ∗ due c 2 k) ∗ owing c 0)
      ⊢ iprop(((pos c 1 0 k ∗ pos c 1 2 k ∗ pPts c k lent (P c) ∗ xPts c k lent (X P c)) ∗ owing c 0 -∗ runs c K Q)
        -∗ runs c (drain c k K) Q) := by
  unfold drain
  iintro ⟨#HΓ, ⟨H0, H2⟩, HO⟩ HK
  iapply (wait_step P κ c 0 k (xChunk k) (pRows c k) rfl 0 (mayWait_zero' c _) _ Q) $$ [H0 HO]
  · isplitr; · iexact HΓ
    isplitl [H0]; · iexact H0
    iexact HO
  iintro ⟨⟨Hat0, Hp⟩, HO⟩
  iapply (wait_step P κ c 2 k (yChunk k) (xChunk k) rfl 0 (mayWait_zero' c _) _ Q) $$ [H2 HO]
  · isplitr; · iexact HΓ
    isplitl [H2]; · iexact H2
    iexact HO
  iintro ⟨⟨Hat2, Hx⟩, HO⟩
  unfold dmaPay
  iapply HK
  isplitr [HO]
  · isplitl [Hat0]; · iexact Hat0
    isplitl [Hat2]; · iexact Hat2
    isplitl [Hp]; · iexact Hp
    iexact Hx
  iexact HO

theorem drain_phase (K : Pr F) (Q : PUnit → sProp 𝕄) :
    iprop(ctx P κ c ∗ over (fun k => iprop(due c 0 k ∗ due c 2 k)) ∗ owing c 0)
      ⊢ iprop((over (fun k => iprop(pos c 1 0 k ∗ pos c 1 2 k ∗ pPts c k lent (P c) ∗ xPts c k lent (X P c))) ∗ owing c 0 -∗ runs c K Q)
        -∗ runs c (pDrain c K) Q) :=
  chain4 c (ctx P κ c) (drain c) _ (fun k => iprop(pos c 1 0 k ∗ pos c 1 2 k ∗ pPts c k lent (P c) ∗ xPts c k lent (X P c)))
    (fun _ => owing c 0) (fun k K Q => drain_step P κ c k K Q) K Q

/-! ## What the phases share out and collect -/

/-- The places of all own semaphores, array by array. -/
theorem places_eq (r : ℕ) : (bigSep Finset.univ fun ak : Fin 4 × Fin 4 => pos (F := F) c r ak.1 ak.2)
    = iprop(over (pos c r 0) ∗ over (pos c r 1) ∗ over (pos c r 2) ∗ over (pos c r 3)) := by
  rw [bigSep_univ_prod, ← over_eq (fun a => over (pos c r a))]

theorem inUse_over (a : Fin 4) : (inUse c : sProp 𝕄) ⊢ over fun k => reached ER (dC c a k) 0 :=
  (bigSep_of_persistent Finset.univ (inUse c)).trans (bigSep_mono fun k _ => inUse_at c a k)

/-- A family at one contents is a family at some contents each. -/
theorem some_each {α : Type} (Φ : Fin 4 → α → sProp 𝕄) (f : α) : over (fun k => Φ k f) ⊢ over fun k => iprop(∃ f, Φ k f) :=
  bigSep_mono fun k _ => by
    have h : Φ k f ⊢ iprop(∃ f, Φ k f) := by iintro H; iexists f; iexact H
    exact h

/-- The landing buffers as the slots handed to the neighbours. -/
theorem xSlots_intro : iprop(inUse c ∗ (∃ f, xAll c fullShare f)) ⊢ (over (xSlot c) : sProp 𝕄) := by
  rw [show over (xSlot (F := F) c) = iprop(over (fun k => iprop(∃ f, xPts c k fullShare f)) ∗ over fun k => reached ER (dC c 1 k) 0) from
    bigSep_sep' _ _ _]
  iintro ⟨#Hu, ⟨%f, Hx⟩⟩
  isplitl [Hx]
  · ihave Hx := (Entails.of_eq (x_blocks c fullShare f)) $$ Hx
    iapply (some_each (fun k f => xPts c k fullShare f) f); iexact Hx
  iapply (inUse_over c 1); iexact Hu
theorem ySlots_intro : iprop(inUse c ∗ (∃ f, yAll c fullShare f)) ⊢ (over (ySlot c) : sProp 𝕄) := by
  rw [show over (ySlot (F := F) c) = iprop(over (fun k => iprop(∃ f, yPts c k fullShare f)) ∗ over fun k => reached ER (dC c 3 k) 0) from
    bigSep_sep' _ _ _]
  iintro ⟨#Hu, ⟨%f, Hy⟩⟩
  isplitl [Hy]
  · ihave Hy := (Entails.of_eq (y_blocks c fullShare f)) $$ Hy
    iapply (some_each (fun k f => yPts c k fullShare f) f); iexact Hy
  iapply (inUse_over c 3); iexact Hu

/-- The rows of the partial sum no copy reads. -/
abbrev pRest : sProp 𝕄 := pM.view.loc (c : Thread nD τ) ↦[Finset.univ \ sentSet c]{lent} (P c)
/-- The partial sum in three parts: the kept share, the lent share of the chunks sent, the rest of the lent share. -/
theorem p_parts : (pAll P c fullShare : sProp 𝕄) ⊣⊢ iprop(pAll P c kept ∗ over (fun k => pPts c k lent (P c)) ∗ pRest P c) := by
  rw [← p_blocks]
  constructor
  · iintro H
    ihave H := (pointsTo_share (PosShare.mem_left_op_right fullShare)).1 $$ H
    icases H with ⟨HK, HL⟩
    isplitl [HK]; · iexact HK
    iapply (pointsTo_split_subset (Finset.subset_univ (sentSet c))).1; iexact HL
  · iintro ⟨HK, HL⟩
    iapply (pointsTo_share (PosShare.mem_left_op_right fullShare)).2
    isplitl [HK]; · iexact HK
    iapply (pointsTo_split_subset (Finset.subset_univ (sentSet c))).2; iexact HL

/-- Before the body. -/
def bodyPre (f : OutC F) : sProp 𝕄 :=
  iprop(ctx P κ c ∗ atPos ER (barC c) 0 ∅ 0 ∗ (bigSep Finset.univ fun ak : Fin 4 × Fin 4 => pos c 0 ak.1 ak.2) ∗ toks c ∗ creds c
    ∗ pAll P c fullShare ∗ oAll c f ∗ (∃ f, xAll c fullShare f) ∗ (∃ f, yAll c fullShare f) ∗ owing c (O₀ c))
/-- After the body. -/
def bodyPost : sProp 𝕄 :=
  iprop(atPos ER (barC c) 1 ∅ 0 ∗ (bigSep Finset.univ fun ak : Fin 4 × Fin 4 => pos c 1 ak.1 ak.2)
    ∗ pAll P c fullShare ∗ oAll c (outV P c) ∗ (∃ f, xAll c fullShare f) ∗ (∃ f, yAll c fullShare f) ∗ owing c 0)

/-- Two families over the chunks as one. -/
theorem over_sep (Φ Ψ : Fin 4 → sProp 𝕄) : over (fun k => iprop(Φ k ∗ Ψ k)) = iprop(over Φ ∗ over Ψ) := bigSep_sep' _ _ _

theorem over_sep3 (Φ Ψ Θ : Fin 4 → sProp 𝕄) : over (fun k => iprop(Φ k ∗ Ψ k ∗ Θ k)) = iprop(over Φ ∗ over Ψ ∗ over Θ) := by
  rw [over_sep, over_sep]
theorem over_sep4 (Φ Ψ Θ Ξ : Fin 4 → sProp 𝕄) : over (fun k => iprop(Φ k ∗ Ψ k ∗ Θ k ∗ Ξ k)) = iprop(over Φ ∗ over Ψ ∗ over Θ ∗ over Ξ) := by
  rw [over_sep, over_sep3]

theorem ret_step (Q : PUnit → sProp 𝕄) : iprop(|={Set.univ}=> Q ⟨⟩) ⊢ runs c (.ret ⟨⟩ : Pr F) Q := by unfold runs; rw [wp_ret]

set_option maxHeartbeats 1000000 in
theorem body_run (f : OutC F) (Q : PUnit → sProp 𝕄) :
    iprop(bodyPre P κ c f ∗ (bodyPost P c -∗ |={Set.univ}=> Q ⟨⟩)) ⊢ runs c (body (F := F)) Q := by
  have text : runs c (body (F := F)) Q
      = runs c (pBarrier c (pX c (pY c (pSum1 c (pYWait (pSum2 c (pDrain c (.ret ⟨⟩)))))))) Q := by
    unfold body runs; simp only [wp_deviceId]
  rw [text]
  unfold bodyPre toks creds
  rw [places_eq]
  iintro ⟨⟨#HΓ, Hbar, ⟨Hpos0, Hpos1, Hpos2, Hpos3⟩, ⟨HtBx, HtBy, Ht0, Ht1, Ht2, Ht3⟩, ⟨HcB, Hc1, Hc3⟩, Hp, Ho, Hx, Hy, HO⟩, HQ⟩
  ihave Hp := (p_parts P c).1 $$ Hp
  icases Hp with ⟨HpK, HpL, HpR⟩
  ihave #Hu : inUse c $$ []
  · unfold ctx; icases HΓ with ⟨-, Hu, -⟩; iexact Hu
  iapply (barrier_step P κ c _ Q) $$ [Hx Hy HtBx HtBy HcB Hbar HO]
  · isplitr; · iexact HΓ
    isplitr [HO]
    · isplitl [Hx]
      · iapply (xSlots_intro c); isplitr; · iexact Hu
        iexact Hx
      isplitl [Hy]
      · iapply (ySlots_intro c); isplitr; · iexact Hu
        iexact Hy
      isplitl [HtBx]; · iexact HtBx
      isplitl [HtBy]; · iexact HtBy
      isplitl [HcB]; · iexact HcB
      iexact Hbar
    iexact HO
  iintro ⟨Hbar, HxS, HyS, HO⟩
  iapply (x_phase P κ c _ Q) $$ [HpL HxS Ht0 Ht1 HO]
  · isplitr; · iexact HΓ
    isplitr [HO]
    · rw [over_sep, over_sep, over_sep]
      isplitl [HpL]; · iexact HpL
      isplitl [HxS]; · iexact HxS
      isplitl [Ht0]; · iexact Ht0
      iexact Ht1
    iexact HO
  iintro ⟨Hc0, HO⟩
  iapply (y_phase P κ c _ Q) $$ [Hc1 Hpos1 HyS Ht2 Ht3 HO]
  · isplitr; · iexact HΓ
    isplitr [HO]
    · rw [over_sep, over_sep, over_sep, over_sep]
      isplitl [Hc1 Hpos1]
      · isplitl [Hc1]; · iexact Hc1
        iexact Hpos1
      isplitl [HyS]; · iexact HyS
      isplitl [Ht2]; · iexact Ht2
      iexact Ht3
    iexact HO
  iintro ⟨HB, HO⟩
  ihave HB := (Entails.of_eq (over_sep3 _ _ _)) $$ HB
  icases HB with ⟨Hpos1, HxK, Hc2⟩
  ihave HxK := (Entails.of_eq (x_blocks c kept (X P c)).symm) $$ HxK
  iapply (sum1_step P c kept kept f _ Q) $$ [HpK HxK Ho]
  · isplitl [HpK]; · iexact HpK
    isplitl [HxK]; · iexact HxK
    iexact Ho
  iintro ⟨HpK, HxK, Ho⟩
  iapply (yWait_phase P κ c _ Q) $$ [Hc3 Hpos3 HO]
  · isplitr; · iexact HΓ
    isplitr [HO]
    · rw [over_sep]
      isplitl [Hc3]; · iexact Hc3
      iexact Hpos3
    iexact HO
  iintro ⟨HB, HO⟩
  ihave HB := (Entails.of_eq (over_sep _ _)) $$ HB
  icases HB with ⟨Hpos3, Hy⟩
  ihave Hy := (Entails.of_eq (y_blocks c fullShare (Y P c)).symm) $$ Hy
  iapply (sum2_step P c kept fullShare (put1 P c f) _ Q) $$ [HpK Hy Ho]
  · isplitl [HpK]; · iexact HpK
    isplitl [Hy]; · iexact Hy
    iexact Ho
  iintro ⟨HpK, Hy, Ho⟩
  iapply (drain_phase P κ c _ Q) $$ [Hc0 Hpos0 Hc2 Hpos2 HO]
  · isplitr; · iexact HΓ
    isplitr [HO]
    · rw [over_sep, over_sep, over_sep]
      isplitl [Hc0 Hpos0]
      · isplitl [Hc0]; · iexact Hc0
        iexact Hpos0
      isplitl [Hc2]; · iexact Hc2
      iexact Hpos2
    iexact HO
  iintro ⟨HB, HO⟩
  ihave HB := (Entails.of_eq (over_sep4 _ _ _ _)) $$ HB
  icases HB with ⟨Hpos0, Hpos2, HpL, HxL⟩
  iapply (ret_step c Q)
  iapply HQ
  unfold bodyPost
  rw [places_eq]
  isplitl [Hbar]; · iexact Hbar
  isplitl [Hpos0 Hpos1 Hpos2 Hpos3]
  · isplitl [Hpos0]; · iexact Hpos0
    isplitl [Hpos1]; · iexact Hpos1
    isplitl [Hpos2]; · iexact Hpos2
    iexact Hpos3
  isplitl [HpK HpL HpR]
  · iapply (p_parts P c).2
    isplitl [HpK]; · iexact HpK
    isplitl [HpL]; · iexact HpL
    iexact HpR
  isplitl [Ho]
  · ihave Ho := (Entails.of_eq (show oAll c (put2 P c (put1 P c f)) = oAll c (outV P c) from congrArg (oAll c) (sums_eq P c f))) $$ Ho
    iexact Ho
  isplitl [HxK HxL]
  · iexists (X P c)
    iapply (pointsTo_share (PosShare.mem_left_op_right fullShare)).2
    isplitl [HxK]; · iexact HxK
    ihave HxL := (Entails.of_eq (x_blocks c lent (X P c)).symm) $$ HxL
    iexact HxL
  isplitl [Hy]; · iexists (Y P c); iexact Hy
  iexact HO

end Cert.EmbedProof

end
-- ==== Proof.Region.lean ====
/-
# The kernel as one segment of the host program

`dat0` says what the kernel's region finds and leaves: the partial sums in, the result out, and around the body the ghost state
of the protocol. `region_body` is the body's obligation, from `body_run`; after it every semaphore's cell is closed, so the
counters stand at zero. `reg0` is the segment, entered from the host's buffers before the call and left at those after it.
-/
module

public import proofs.«01_k».proof.Proof.Body
public import proofs.«01_k».proof.Proof.Gen.KernelIdeal.Regions
public import Idealize.ShloMosaic.Lib.Pipeline.ValueKit

@[expose] public section

noncomputable section

namespace Cert.EmbedProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! The host's buffers before the call are any `W`; what the segment does depends on no more. -/

attribute [local irreducible] outV

variable (W : Dev nD → Valuation τ sig (Elt F))

/-- The partial sums, as the host leaves them before the call. -/
def parts : Parts F := fun c => W c main_v18

/-- The host's buffers after the call: the total in the result's buffer. -/
def after (c : Dev nD) : Valuation τ sig (Elt F) := Function.update (W c) main_v19 (outV (parts W) c)

theorem after_of (c : Dev nD) (b : DevRef τ sig) (h : b ≠ Proc.devRef .tc main_v19) : after W c b = W c b :=
  Function.update_of_ne h _ _
theorem after_out (c : Dev nD) : after W c main_v19 = outV (parts W) c := Function.update_self ..

/-! ## The ghost state around the body -/

/-- On entry: everything put to use. -/
def Xk (c : Dev nD) : sProp 𝕄 :=
  iprop(∃ κ, ctx (parts W) κ c ∗ atPos ER (barC c) 0 ∅ 0 ∗ (bigSep Finset.univ fun ak : Fin 4 × Fin 4 => pos c 0 ak.1 ak.2)
    ∗ toks c ∗ creds c)
/-- On exit: the barrier's counter at zero. -/
def Yk (c : Dev nD) : sProp 𝕄 := semVal (barC c) 0

/-- The two landing buffers, at any contents. -/
def landing (c : Dev nD) : sProp 𝕄 :=
  iprop((∃ f, (c : Thread nD τ).loc cc0_scratch0 ↦{fullShare} f) ∗ (∃ f, (c : Thread nD τ).loc cc0_scratch1 ↦{fullShare} f))

/-- The region's data on device `c`. -/
def dat0 (c : Dev nD) : Dat τ (Elt F) Unit ℕ UU ℕ cfg0 c where
  A w := W c (Proc.devRef .tc (arrRef spec0 w))
  after w _ := match w with
    | 0 => parts W c
    | 1 => outV (parts W) c
  Φ t := if t.val = 0 then iprop(Xk W c ∗ landing c ∗ ∃ r, prngReg c r)
    else iprop(Yk c ∗ ownSems0 osem c ∗ landing c ∗ ∃ r, prngReg c r)
  q _ := fullShare
  owed t := if t.val = 0 then O₀ c else 0

abbrev pdats (p : Fin 1) (c : Dev nD) : Dat τ (Elt F) Unit ℕ UU ℕ (cfgs p) c := match p with | 0 => dat0 W c

/-- All own semaphores put to use: each cell opened at its counter's zero. -/
theorem open_own (κ : GSem nD τ sig → ℕ) (P : Parts F) (c : Dev nD) :
    iprop(records P κ ∗ (bigSep Finset.univ fun ak : Fin 4 × Fin 4 => openTok ER (dC c ak.1 ak.2)) ∗ ownSems0 osem c)
      ⊢ (|={Set.univ}=> iprop((bigSep Finset.univ fun ak : Fin 4 × Fin 4 => pos c 0 ak.1 ak.2) ∗ inUse c) : sProp 𝕄) := by
  unfold ownSems0 inUse
  rw [← bigSep_sep', ← bigSep_sep']
  refine (bigSep_with_persistent (Ψ := fun ak : Fin 4 × Fin 4 =>
    iprop(|={Set.univ}=> (pos c 0 ak.1 ak.2 ∗ reached ER (dC c ak.1 ak.2) 0))) fun ak _ => ?_).trans (bigSep_fupd _ _)
  refine (sep_mono_left (inv_at P κ (dma_mem c ak.1 ak.2))).trans ?_
  exact cell_open ER (sched P) (g := dC c ak.1 ak.2) (Set.mem_univ (κ (dC c ak.1 ak.2)))

/-- All own semaphores back: each cell closed after its round, its counter at zero. -/
theorem close_own (κ : GSem nD τ sig → ℕ) (P : Parts F) (c : Dev nD) :
    iprop(records P κ ∗ bigSep Finset.univ fun ak : Fin 4 × Fin 4 => pos c 1 ak.1 ak.2)
      ⊢ (|={Set.univ}=> ownSems0 osem c : sProp 𝕄) := by
  unfold ownSems0
  refine (bigSep_with_persistent (Ψ := fun ak : Fin 4 × Fin 4 =>
    iprop(|={Set.univ}=> semVal (dC c ak.1 ak.2) 0)) fun ak _ => ?_).trans (bigSep_fupd _ _)
  refine (sep_mono_left (inv_at P κ (dma_mem c ak.1 ak.2))).trans ?_
  exact cell_close ER (sched P) (Set.mem_univ _) id (duties_later P _)

/-- The barrier back. -/
theorem close_bar (κ : GSem nD τ sig → ℕ) (P : Parts F) (c : Dev nD) :
    iprop(records P κ ∗ atPos ER (barC c) 1 ∅ 0) ⊢ (|={Set.univ}=> Yk c : sProp 𝕄) :=
  (sep_mono_left (inv_at P κ (bar_mem c))).trans (cell_close ER (sched P) (Set.mem_univ _) id (duties_later P _))

theorem owesAt_of (c : Dev nD) (t : Fin (cfg0.N + 1)) (O : CellTallies nD τ sig Unit) (h : (dat0 W c).owed t = O) :
    (owing c O : sProp 𝕄) ⊢ (dat0 W c).owesAt () t := by
  unfold owing Dat.owesAt Pipeline.owesWithin Dat.bound; rw [h]
  iintro ⟨%S, HO⟩; iexists S; isplitr
  · ipureintro; exact fun _ _ => Or.inl trivial
  · iexact HO

theorem owing_of (c : Dev nD) (t : Fin (cfg0.N + 1)) (O : CellTallies nD τ sig Unit) (h : (dat0 W c).owed t = O) :
    ((dat0 W c).owesAt () t : sProp 𝕄) ⊢ owing c O := by
  unfold owing Dat.owesAt Pipeline.owesWithin; rw [h]
  iintro ⟨%S, -, HO⟩; iexists S; iexact HO

/-- The input's block is the whole of the partial sums. -/
theorem before_in (c : Dev nD) (d : (cfg0.win (0 : Fin 2)).block.Idx → Elt F (cfg0.win (0 : Fin 2)).elt) :
    (dat0 W c).before (0 : Fin 2) t0_0 d = parts W c := by
  rw [(dat0 W c).before_fetched (0 : Fin 2) t0_0 (fetch0_0 t0_0)]
  unfold Dat.fetched Dat.blockOf
  funext i
  unfold Window.fill View.read
  have hm : (cfg0.win (0 : Fin 2)).moved (cfg0.grid.coords t0_0) i = true :=
    ((cfg0.win (0 : Fin 2)).moved_iff _ i).mpr fun a => (i a).isLt
  rw [dif_pos hm]
  refine congrArg (parts W c) (funext fun a => Fin.ext ?_)
  exact Window.rect_emb_val_of_index_zero win0_0 t0_0 a rfl _

theorem Φ_first (c : Dev nD) : (dat0 W c).Φ t0_0.castSucc = iprop(Xk W c ∗ landing c ∗ ∃ r, prngReg c r) := rfl
theorem Φ_last (c : Dev nD) : (dat0 W c).Φ t0_0.succ = iprop(Yk c ∗ ownSems0 osem c ∗ landing c ∗ ∃ r, prngReg c r) := rfl

set_option maxHeartbeats 1000000 in
/-- The body's obligation at the one point of the grid. -/
theorem region_body (c : Dev nD) : BodyObligation (dat0 W c) defs₀ 𝒱₀ () Set.univ := fun t => by
  obtain rfl := fin_N0 t
  rw [bigSep_W0, bigSep_W0, Φ_first, Φ_last]
  unfold Xk landing
  iintro ⟨⟨⟨%κ, #Hctx, Hbar, Hpos, Htok, Hcr⟩, ⟨⟨%f0, Hx⟩, ⟨%f1, Hy⟩⟩, Hreg⟩, HO, ⟨%d0, Hin⟩, ⟨%d1, Hout⟩⟩
  ihave Hin' := (Entails.of_eq (owns_whole (c : Thread nD τ) cc0_stg0_0 fullShare _)) $$ Hin
  ihave Hout' := (Entails.of_eq (owns_whole (c : Thread nD τ) cc0_stg1_0 fullShare _)) $$ Hout
  ihave HO' := (owing_of W c _ (O₀ c) rfl) $$ HO
  have text : (defs₀ (F := F)) .tc cfg0.body (cfg0.bodyArgs t0_0 (cfg0.slots t0_0)) = body := body_eq t0_0
  rw [text]
  rw [before_in W c d0]
  iapply (body_run (parts W) κ c ((dat0 W c).before (1 : Fin 2) t0_0 d1) _)
  isplitr [Hreg]
  · unfold bodyPre
    isplitr; · iexact Hctx
    isplitl [Hbar]; · iexact Hbar
    isplitl [Hpos]; · iexact Hpos
    isplitl [Htok]; · iexact Htok
    isplitl [Hcr]; · iexact Hcr
    isplitl [Hin']; · iexact Hin'
    isplitl [Hout']; · iexact Hout'
    isplitl [Hx]; · iexists f0; iexact Hx
    isplitl [Hy]; · iexists f1; iexact Hy
    iexact HO'
  unfold bodyPost
  iintro ⟨Hbar, Hpos, Hin, Hout, ⟨%f0', Hx⟩, ⟨%f1', Hy⟩, HO⟩
  ihave #Hrec : records (parts W) κ $$ []
  · unfold ctx; icases Hctx with ⟨Hr, -, -⟩; iexact Hr
  imod (close_bar κ (parts W) c) $$ [Hbar] with Hb
  · isplitr; · iexact Hrec
    iexact Hbar
  imod (close_own κ (parts W) c) $$ [Hpos] with Hs
  · isplitr; · iexact Hrec
    iexact Hpos
  imodintro
  isplitl [Hb Hs Hx Hy Hreg]
  · isplitl [Hb]; · iexact Hb
    isplitl [Hs]; · iexact Hs
    isplitl [Hx Hy]
    · isplitl [Hx]
      · iexists f0'; iexact Hx
      iexists f1'; iexact Hy
    iexact Hreg
  isplitl [HO]
  · iapply (owesAt_of W c t0_0.succ 0 rfl); iexact HO
  isplitl [Hin]
  · iapply (Entails.of_eq (owns_whole (c : Thread nD τ) cc0_stg0_0 fullShare _).symm); iexact Hin
  · iapply (Entails.of_eq (owns_whole (c : Thread nD τ) cc0_stg1_0 fullShare _).symm); iexact Hout

/-! ## The segment -/

theorem open_kernel (c : Dev nD) : iprop(ghost (parts W) c ∗ ownSems0 osem c ∗ levAts L lv) ⊢ (|={Set.univ}=> Xk W c : sProp 𝕄) := by
  unfold ghost Xk
  iintro ⟨⟨%κ, #Hrec, Hbar, Hopen, Htok, Hcr⟩, Hs, #Hlev⟩
  imod (open_own κ (parts W) c) $$ [Hopen Hs] with ⟨Hpos, #Hu⟩
  · isplitr; · iexact Hrec
    isplitl [Hopen]; · iexact Hopen
    iexact Hs
  imodintro
  iexists κ
  isplitr
  · unfold ctx
    isplitr; · iexact Hrec
    isplitr; · iexact Hu
    iexact Hlev
  isplitl [Hbar]; · iexact Hbar
  isplitl [Hpos]; · iexact Hpos
  isplitl [Htok]; · iexact Htok
  iexact Hcr

theorem held_none (c : Dev nD) (V : Valuation τ sig (Elt F)) : (StableHlo.held (c.tc : Thread nD τ) ∅ V : sProp 𝕄) = BI.emp := by
  unfold StableHlo.held; exact BI.bigSep_empty

theorem enter (c : Dev nD) :
    iprop(scopedRest (pin (pcfgs (F := F)) adm 0).spec c ∗ (∃ r, prngReg c r) ∗ StableHlo.held (c.tc : Thread nD τ) ∅ (W c) ∗ Xk W c)
      ⊢ (pdats W 0 c).Φ 0 := by
  rw [show (pdats W 0 c).Φ 0 = iprop(Xk W c ∗ landing c ∗ ∃ r, prngReg c r) from rfl,
    show (scopedRest (pin (pcfgs (F := F)) adm 0).spec c : sProp 𝕄) = landing c from scopedRest0_eq c]
  iintro ⟨Hs, Hp, -, HX⟩
  isplitl [HX]; · iexact HX
  isplitl [Hs]; · iexact Hs
  iexact Hp

theorem leave (c : Dev nD) :
    (pdats W 0 c).Φ (Fin.last (pin (pcfgs (F := F)) adm 0).N)
      ⊢ iprop(scopedRest (pin (pcfgs (F := F)) adm 0).spec c ∗ (∃ r, prngReg c r)
          ∗ StableHlo.held (c.tc : Thread nD τ) ∅ (after W c) ∗ ownSems0 osem c ∗ Yk c) := by
  rw [show (pdats W 0 c).Φ (Fin.last _) = iprop(Yk c ∗ ownSems0 osem c ∗ landing c ∗ ∃ r, prngReg c r) from rfl,
    show (scopedRest (pin (pcfgs (F := F)) adm 0).spec c : sProp 𝕄) = landing c from scopedRest0_eq c, held_none]
  iintro ⟨HY, Ho, Hs, Hp⟩
  isplitl [Hs]; · iexact Hs
  isplitl [Hp]; · iexact Hp
  isplitr; · iempintro
  isplitl [Ho]; · iexact Ho
  iexact HY

theorem cut (c : Dev nD) (t : Fin ((pin (pcfgs (F := F)) adm 0).N + 1)) (g : GSem nD τ sig) (i : Unit)
    (h : 0 < (pdats W 0 c).owed t g i) : i ∈ L g ∧ (0 : ℕ) < lv g i := by
  have e : (pdats W 0 c).owed t = if t.val = 0 then O₀ c else 0 := rfl
  rw [e] at h
  split at h
  · exact above_O₀ c g i h
  · exact absurd h (Nat.lt_irrefl 0)

theorem kit : PLaunchFacts (nD := nD) (τ := τ) (pcfgs (F := F)) 0 where
  cellOf_inj a := by rw [Subsingleton.elim a adm]; exact cellOf_inj
  win := winFacts0
  pre := PreFacts.none _
  block_pos := block_pos0
  arr_whole := arr_whole0
  stage_whole := stage_whole0

theorem arr_out (c : Dev nD) : (dat0 W c).arrAt (1 : Fin 2) cfg0.N = outV (parts W) c := by
  funext i
  refine ((dat0 W c).arrAt_emb_eq_after_last (1 : Fin 2) t0_0 (by decide +kernel) i).trans ?_
  blk_simp
  rfl

theorem arrs_after (c : Dev nD) (w : Fin 2) : (dat0 W c).arrAt w cfg0.N = after W c (Proc.devRef .tc (arrRef spec0 w)) :=
  match w with
  | 0 => ((dat0 W c).arrAt_in (0 : Fin 2) rfl _).trans (after_of W c _ (by decide)).symm
  | 1 => (arr_out W c).trans (after_out W c).symm

theorem stage_level : ∀ (w : Fin 2) (s : Fin (spec0 w).nbuf), lvOf (.dma ((spec0 w).sem s)) ≤ 0 := by decide
theorem osem_facts : OwnSemFacts spec0 osem := by decide

set_option backward.isDefEq.respectTransparency.types false in
/-- The call as a segment. -/
def reg0 : RegionSeg (pcfgs (F := F)) adm (pdats W) () defs₀ 𝒱₀ L lv 0 :=
  RegionSeg.ofTalk (pcfgs (F := F)) adm (pdats W) () defs₀ 𝒱₀ L lv 0 osem osem_facts
    ∅ (ucRefs τ sig \ arrRefs spec0) (Finset.empty_subset _) kit rfl (fun c => (region_body W c).loose)
    (fun _ => 0) O₀ (fun c => (show (dat0 W c).owed 0 = O₀ c from rfl).trans (zero_add _).symm) (fun _ => rfl) (fun _ => rfl)
    (fun c w => by match w with | 0 => rfl | 1 => rfl)
    W (after W) (fun c b hb => by
      refine Function.update_of_ne (fun h => ?_) _ _
      subst h; exact absurd hb (by decide))
    (ghost (parts W)) Yk (Xk W) Yk (open_kernel W) (enter W) (leave W)
    (fun c => by iintro H; imodintro; iexact H)
    (fun _ => 0)
    ⟨fun c _ _ => mem_L c _ (), fun _ w s => by match w with | 0 => exact stage_level 0 s | 1 => exact stage_level 1 s, fun c t g i h => cut W c t g i h⟩
    (fun _ => iprop(emp))
    (fun _ _ => rfl) (fun c w => arrs_after W c w)

end Cert.EmbedProof

end
-- ==== Proof.Credits.lean ====
/-
# What the launch credits each device with

Everything a device is owed, summed over the devices that owe it: two units on its barrier and one chunk on each of its receive
semaphores. So the launch's credit of a device splits into the credits `creds` that the body waits with.
-/
module

public import proofs.«01_k».proof.Proof.Region

@[expose] public section

noncomputable section

namespace Cert.EmbedProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is owed of one unit per device, to the neighbour's semaphore `s`, arrives once at each device. -/
theorem sum_tally (σ : Dev nD → Dev nD) (hσ : ∀ c, σ (σ c) = c) (s s' : SemLoc sig) (n : ℕ) (c : Dev nD) :
    (∑ d : Dev nD, (tallyAt ((σ d : Thread nD τ), s) () n : CellTallies nD τ sig Unit) ((c : Thread nD τ), s') ())
      = if s' = s then n else 0 := by
  rw [Finset.sum_congr rfl fun d _ => show _ = (if d = σ c then (if s' = s then n else 0) else 0) from ?_,
    Finset.sum_ite_eq' Finset.univ (σ c) fun _ => _, if_pos (Finset.mem_univ _)]
  rw [tallyAt_apply]
  by_cases h : d = σ c
  · subst h; rw [hσ, if_pos rfl]
    by_cases hs : s' = s
    · subst hs; rw [if_pos ⟨rfl, rfl⟩, if_pos rfl]
    · rw [if_neg (fun e => hs (congrArg Prod.snd e.1)), if_neg hs]
  · rw [if_neg h, if_neg]
    rintro ⟨e, -⟩
    exact h (by rw [show c = σ d from congrArg (fun g : GSem nD τ sig => g.1.1) e, hσ])

/-- What a device is owed on `s` by `n` second copies of its neighbour. -/
def ofY (s : SemLoc sig) : ℕ → ℕ
  | 0 => 0
  | n + 1 => ofY s n + if s = .dma (dsem 3 (Fin.ofNat 4 (3 - n))) then N else 0
/-- By the second copies and `n` first copies. -/
def ofX (s : SemLoc sig) : ℕ → ℕ
  | 0 => ofY s 4
  | n + 1 => ofX s n + if s = .dma (dsem 1 (Fin.ofNat 4 (3 - n))) then N else 0
/-- In all. -/
def ofAll (s : SemLoc sig) : ℕ := ofX s 4 + (if s = .reg barS then 1 else 0) + (if s = .reg barS then 1 else 0)

theorem sum_dueY (s : SemLoc sig) (c : Dev nD) : ∀ n, (∑ d : Dev nD, dueY d n ((c : Thread nD τ), s) ()) = ofY s n
  | 0 => Finset.sum_const_zero
  | n + 1 => by
    unfold ofY; rw [← sum_dueY s c n, ← sum_tally yn yn_yn _ s N c, ← Finset.sum_add_distrib]; rfl
theorem sum_dueX (s : SemLoc sig) (c : Dev nD) : ∀ n, (∑ d : Dev nD, dueX d n ((c : Thread nD τ), s) ()) = ofX s n
  | 0 => sum_dueY s c 4
  | n + 1 => by
    unfold ofX; rw [← sum_dueX s c n, ← sum_tally xn xn_xn _ s N c, ← Finset.sum_add_distrib]; rfl
theorem sum_O₀ (s : SemLoc sig) (c : Dev nD) : (∑ d : Dev nD, O₀ d ((c : Thread nD τ), s) ()) = ofAll s := by
  have hy := sum_tally yn yn_yn (.reg barS) s 1 c
  have hx := sum_tally xn xn_xn (.reg barS) s 1 c
  unfold ofAll
  rw [← sum_dueX s c 4]
  refine Eq.trans ?_ (congrArg₂ (· + ·) (congrArg₂ (· + ·) rfl hy) hx)
  rw [← Finset.sum_add_distrib, ← Finset.sum_add_distrib]
  rfl

theorem ofAll_bar : ofAll (.reg barS) = 2 := by decide
theorem ofAll_recv1 : ∀ k, ofAll (.dma (dsem 1 k)) = N := by decide
theorem ofAll_recv2 : ∀ k, ofAll (.dma (dsem 3 k)) = N := by decide

theorem launch_at (c : Dev nD) (s : SemLoc sig) (n : ℕ) (h : ofAll s = n) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [launchCredit_owing, Finsupp.single_eq_same, sum_O₀, h]

/-- The semaphores awaited with credit from launch. -/
def waitSem : Unit ⊕ Fin 4 ⊕ Fin 4 → SemLoc sig
  | .inl _ => .reg barS
  | .inr (.inl k) => .dma (dsem 1 k)
  | .inr (.inr k) => .dma (dsem 3 k)
theorem waitSem_inj : Function.Injective waitSem := by decide

/-- Parts equal, so the whole. -/
theorem sep_eq {A A' B B' : sProp 𝕄} (h : A = A') (h' : B = B') : iprop(A ∗ B) = iprop(A' ∗ B') := by rw [h, h']

theorem creds_of_launch (c : Dev nD) : (launchCred O₀ c : sProp 𝕄) ⊢ creds c := by
  have h : ∀ s n, ofAll s = n → (cred (tallyOn ((c : Thread nD τ), s) (launchCredit (Pipeline.owing O₀) 0 ((c : Thread nD τ), s))) : sProp 𝕄)
      = cred (tallyAt ((c : Thread nD τ), s) () n) := fun s n e => by rw [launch_at c s n e]
  unfold launchCred creds
  refine (bigSep_subset (Finset.subset_univ (Finset.univ.map ⟨waitSem, waitSem_inj⟩))).trans ?_
  rw [bigSep_map, bigSep_univ_sum, bigSep_univ_sum, bigSep_univ_of_subsingleton ()]
  exact Entails.of_eq (sep_eq (h _ _ ofAll_bar) (sep_eq (bigSep_congr fun k _ => h _ _ (ofAll_recv1 k))
    (bigSep_congr fun k _ => h _ _ (ofAll_recv2 k))))

end Cert.EmbedProof

end
-- ==== Proof.Launch.lean ====
/-
# From launch to the end of the program

The invariants of all cells are made once, before any device runs: the barriers with their counters, the kernel's own semaphores
dormant until the kernel opens them. The tokens are dealt so that each device holds those of the duties it pays. `run_main` is the
run of the whole program over any float values: it ends, the arguments are unchanged, the result holds `outV` of the partial sums,
and every counter is at zero.
-/
module

public import proofs.«01_k».proof.Proof.Credits

@[expose] public section

noncomputable section

namespace Cert.EmbedProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens -/

/-- The duties on one device's semaphores: two at the barrier, one at each of its own. -/
def dutyAt : Bool ⊕ Fin 4 × Fin 4 → SemLoc sig × Bool
  | .inl b => (.reg barS, b)
  | .inr ak => (osem ak, false)
theorem dutyAt_inj : Function.Injective dutyAt := by decide

def allToks : Finset (GSem nD τ sig × ℕ × Bool) :=
  Finset.univ.map ⟨fun x : Dev nD × (Bool ⊕ Fin 4 × Fin 4) => (((x.1 : Thread nD τ), (dutyAt x.2).1), 0, (dutyAt x.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

/-- The tokens on device `c`'s semaphores, whoever pays. -/
def ownToks (c : Dev nD) : sProp 𝕄 :=
  iprop(dutyTok ER (barC c) 0 false ∗ dutyTok ER (barC c) 0 true ∗ over (fun k => tok c 0 k) ∗ over (fun k => tok c 1 k)
    ∗ over (fun k => tok c 2 k) ∗ over (fun k => tok c 3 k))

theorem pair_assoc (A B C : sProp 𝕄) : iprop((A ∗ B) ∗ C) = iprop(A ∗ B ∗ C) := by
  have back : iprop(A ∗ B ∗ C) ⊢ iprop((A ∗ B) ∗ C) := by
    iintro ⟨HA, HB, HC⟩
    isplitr [HC]
    · isplitl [HA]; · iexact HA
      iexact HB
    iexact HC
  exact BI.equiv_iff.mp ⟨BI.sep_assoc, back⟩

theorem toks_split : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_sum, bigSep_univ_prod,
    bigSep_univ_eq_bigSepL [false, true] (by decide) (by decide) (fun b : Bool => _),
    bigSep_univ_eq_bigSepL [0, 1, 2, 3] (by decide) (by decide) (fun a : Fin 4 => _)]
  unfold ownToks
  exact pair_assoc _ _ _

/-- The mesh's two swaps. -/
def swapX : Dev nD ≃ Dev nD := ⟨xn, xn, xn_xn, xn_xn⟩
def swapY : Dev nD ≃ Dev nD := ⟨yn, yn, yn_yn, yn_yn⟩

/-- Every token handed to the device that pays its duty. -/
theorem toks_dealt : (bigSep Finset.univ fun c : Dev nD => (ownToks c : sProp 𝕄)) = bigSep Finset.univ fun c : Dev nD => toks c := by
  unfold ownToks toks
  simp only [bigSep_sep']
  exact sep_eq (bigSep_univ_equiv swapX _) (sep_eq (bigSep_univ_equiv swapY _) (sep_eq rfl
    (sep_eq (bigSep_univ_equiv swapX _) (sep_eq rfl (bigSep_univ_equiv swapY _)))))

/-! ## The launch element -/

theorem cells_disjoint : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact absurd (congrArg Prod.snd h) (by rintro ⟨⟩)

def u₀ : UU :=
  (initOf (cells (pin (pcfgs (F := F)) adm) cellOf_inj) (launchToks (pin (pcfgs (F := F)) adm) cellOf_inj),
    launchOf barCells dmaCells allToks)

/-- The protocol's launch element, kept on device 0 until the devices' shares are made of it. -/
def G (c : Dev nD) : sProp 𝕄 := if c = 0 then BI.own (ER (launchOf barCells dmaCells allToks)) else iprop(emp)
theorem all_G : bigSep Finset.univ (G (F := F)) = BI.own (ER (launchOf barCells dmaCells allToks)) := by
  unfold G
  rw [bigSep_univ_at _ (0 : Dev nD), bigSep_congr (s := Finset.univ.erase (0 : Dev nD)) (Ψ := fun _ => (BI.emp : sProp 𝕄))
    fun c hc => by rw [if_neg (Finset.ne_of_mem_erase hc)]; rfl, BI.bigSep_emp_const, if_pos rfl]
  exact BI.equiv_iff.mp sep_emp

variable (m : (ℓ : Loc nD τ sig) → Buf (Elt F) ℓ) (ρ : Dev nD → PrngReg)

/-- What rides along a device's host code to the call. -/
def rest (c : Dev nD) : sProp 𝕄 := iprop(ghost (parts (V4 m)) c ∗ (∃ r, prngReg c r) ∗ owing c (O₀ c))

/-- What of a device's launch holdings is not the protocol's ghost state. -/
def plain (c : Dev nD) : sProp 𝕄 :=
  iprop(StableHlo.held (c : Thread nD τ) (ucRefs τ sig) (V0 m c) ∗ creds c ∗ owing c (O₀ c) ∗ ∃ r, prngReg c r)
/-- A device's share of the ghost state. -/
def share (c : Dev nD) : sProp 𝕄 :=
  iprop(atPos ER (barC c) 0 ∅ 0 ∗ (bigSep Finset.univ fun ak : Fin 4 × Fin 4 => openTok ER (dC c ak.1 ak.2)) ∗ toks c)

theorem start_intro (P : Parts F) (κ : GSem nD τ sig → ℕ) (c : Dev nD) :
    iprop(records P κ ∗ (share c ∗ plain m c))
      ⊢ iprop(StableHlo.held (c : Thread nD τ) (ucRefs τ sig) (V0 m c) ∗ ghost P c ∗ (∃ r, prngReg c r) ∗ owing c (O₀ c)) := by
  unfold plain share ghost
  iintro ⟨#HR, ⟨Hb, Ho, Ht⟩, Hh, Hc, HO, Hp⟩
  isplitl [Hh]; · iexact Hh
  isplitl [Hb Ho Ht Hc]
  · iexists κ
    isplitr; · iexact HR
    isplitl [Hb]; · iexact Hb
    isplitl [Ho]; · iexact Ho
    isplitl [Ht]; · iexact Ht
    iexact Hc
  isplitl [Hp]; · iexact Hp
  iexact HO

theorem barrier_only (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem core_start (c : Dev nD) :
    iprop(unscopedBufs c (fun b => m ((c : Thread nD τ).loc b)) ∗ unscopedSems0 c
        ∗ owes (c : Thread nD τ) (O₀ c) ∅ ∗ launchCred O₀ c ∗ prngReg c (ρ c) ∗ G c)
      ⊢ (iprop(plain m c ∗ (semVal (barC c) 0 ∗ G c)) : sProp 𝕄) := by
  rw [show unscopedBufs c (fun b => m ((c : Thread nD τ).loc b)) = StableHlo.held (c : Thread nD τ) (ucRefs τ sig) (V0 m c)
    from unscopedBufs_held c (V0 m c), barrier_only]
  unfold plain owing
  iintro ⟨Hh, Hb, HO, Hcr, Hp, HG⟩
  ihave Hc := (creds_of_launch (F := F) c) $$ Hcr
  isplitl [Hh Hc HO Hp]
  · isplitl [Hh]; · iexact Hh
    isplitl [Hc]; · iexact Hc
    isplitl [HO]; · iexists ∅; iexact HO
    iexists (ρ c); iexact Hp
  isplitl [Hb]; · iexact Hb
  iexact HG

/-- What each device starts with, at once for all of them. -/
theorem start :
    iprop((bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ G c)) ∗ levAts L lv)
      ⊢ (|={Set.univ}=> bigSep Finset.univ fun c : Dev nD => iprop(StableHlo.held (c : Thread nD τ) (ucRefs τ sig) (V0 m c) ∗ rest m c) : sProp 𝕄) := by
  have hcore : (bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ G c))
      ⊢ (iprop((bigSep Finset.univ fun c : Dev nD => plain m c) ∗ (bigSep barCells fun g => semVal g 0)
          ∗ BI.own (ER (launchOf barCells dmaCells allToks))) : sProp 𝕄) := by
    rw [← all_G, bigSep_map, ← bigSep_sep', ← bigSep_sep']
    exact bigSep_mono fun c _ => core_start m ρ c
  have hshare : iprop((bigSep barCells fun g => atPos ER g 0 ∅ 0) ∗ (bigSep dmaCells fun g => openTok ER g)
        ∗ bigSep allToks fun x => dutyTok ER x.1 x.2.1 x.2.2) = (bigSep Finset.univ fun c : Dev nD => (share c : sProp 𝕄)) := by
    rw [toks_split, toks_dealt, bigSep_map, bigSep_map, bigSep_univ_prod, ← bigSep_sep', ← bigSep_sep']
    rfl
  iintro ⟨H, -⟩
  ihave H := hcore $$ H
  icases H with ⟨HB, Hv, HG⟩
  imod (fund_launch ER (sched (parts (V4 m))) cells_disjoint (fun g _ h => h) allToks) $$ [Hv HG] with ⟨%κ, -, #Hinv, #Hr, Hat, Hopen, Htok⟩
  · isplitl [Hv]; · iexact Hv
    iexact HG
  imodintro
  ihave Hs := (Entails.of_eq hshare) $$ [Hat Hopen Htok]
  · isplitl [Hat]; · iexact Hat
    isplitl [Hopen]; · iexact Hopen
    iexact Htok
  iapply (bigSep_with_persistent (R := records (parts (V4 m)) κ) (Φ := fun c => iprop(share c ∗ plain m c)) fun c _ => start_intro m (parts (V4 m)) κ c)
  isplitr
  · unfold records
    isplitr; · iexact Hinv
    iexact Hr
  iapply (Entails.of_eq (bigSep_sep' _ _ _).symm)
  isplitl [Hs]; · iexact Hs
  iexact HB

/-! ## The call's two sides -/

theorem call_pre (c : Dev nD) : iprop(StableHlo.held (c : Thread nD τ) (ucRefs τ sig) (V4 m c) ∗ rest m c) ⊢ (reg0 (V4 m)).pre c := by
  show _ ⊢ iprop(StableHlo.held (c.tc : Thread nD τ) (arrRefs (τ := τ) spec0) (V4 m c) ∗ (∃ r, prngReg c r)
    ∗ (StableHlo.held (c.tc : Thread nD τ) (ucRefs τ sig \ arrRefs spec0) (V4 m c) ∗ emp) ∗ ghost (parts (V4 m)) c
    ∗ ∃ Wd, owes (c : Thread nD τ) (0 + O₀ c) Wd)
  rw [StableHlo.held_sub_split (c : Thread nD τ) (arrRefs_sub_ucRefs spec0 (by decide)) (V4 m c), zero_add]
  unfold rest owing
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

theorem call_post (W : Dev nD → Valuation τ sig (Elt F)) (c : Dev nD) :
    (reg0 W).post c ⊢ iprop((StableHlo.held (c : Thread nD τ) (ucRefs τ sig) (after W c) ∗ semVal (barC c) 0)
      ∗ ∃ S, owes (c : Thread nD τ) (0 : CellTallies nD τ sig Unit) S) := by
  show iprop(StableHlo.held (c.tc : Thread nD τ) (arrRefs (τ := τ) spec0) (after W c) ∗ (∃ r, prngReg c r)
    ∗ (StableHlo.held (c.tc : Thread nD τ) (ucRefs τ sig \ arrRefs spec0) (after W c) ∗ emp) ∗ Yk c
    ∗ ∃ Wd, owes (c : Thread nD τ) (0 : CellTallies nD τ sig Unit) Wd) ⊢ _
  rw [StableHlo.held_sub_split (c : Thread nD τ) (arrRefs_sub_ucRefs spec0 (by decide)) (after W c)]
  unfold Yk
  iintro ⟨Ha, -, ⟨Hr, -⟩, Hb, HO⟩
  isplitr [HO]
  · isplitl [Ha Hr]
    · isplitl [Ha]; · iexact Ha
      iexact Hr
    iexact Hb
  iexact HO

/-! ## The run -/

theorem unscoped_bar : ∀ s : SemLoc sig, s.isScoped .tc = false → s = .reg barS := by decide

theorem unwritten (c : Dev nD) (r : Ref sig .tc) (h : (Proc.devRef .tc r : DevRef τ sig) ≠ Proc.devRef .tc main_v19)
    (h0 : r ∉ hostOps0_W) (h1 : r ∉ hostOps0_1_W) (h2 : r ∉ hostOps0_2_W) (h3 : r ∉ hostOps0_3_W) :
    after (V4 m) c r = m ((c : Thread nD τ).loc r) :=
  (after_of (V4 m) c _ h).trans <| (V4_of m c r h3).trans <| (V3_of m c r h2).trans <| (V2_of m c r h1).trans <| (V1_of m c r h0).trans rfl

/-- What a device's memory holds at the end: the arguments as launched, the total in the result, the barrier's counter at zero. -/
def ends (c : Dev nD) (s : MemSt nD τ sig (Elt F)) : Prop :=
  (s.mem ((c : Thread nD τ).loc main_v19) = outV (parts (V4 m)) c
    ∧ s.mem ((c : Thread nD τ).loc main_arg0) = m ((c : Thread nD τ).loc main_arg0)
    ∧ s.mem ((c : Thread nD τ).loc main_arg1) = m ((c : Thread nD τ).loc main_arg1)) ∧ s.sem (barC c) = 0

theorem read_end (c : Dev nD) (s' : Phys nD τ sig (Elt F)) :
    iprop((StableHlo.held (c : Thread nD τ) (ucRefs τ sig) (after (V4 m) c) ∗ semVal (barC c) 0) ∗ SI s')
      ⊢ (|={Set.univ}=> iprop(⌜ends m c s'.mem⌝ ∗ SI s') : sProp 𝕄) := by
  unfold StableHlo.held
  iintro ⟨⟨Hh, Hb⟩, HSI⟩
  icombine HSI Hb gives %hb
  ihave Hr := (pointsTo_read_all (ucRefs τ sig) (fun b => ((c : Thread nD τ).1, b)) (after (V4 m) c) s') $$ [Hh HSI]
  · isplitl [Hh] <;> iassumption
  icases Hr with ⟨%h, HSI⟩
  imodintro
  isplitr
  · ipureintro
    have at_ (r : Ref sig .tc) (hr : r.isScoped = false) := h (Proc.devRef .tc r) (devRef_mem_ucRefs hr)
    exact ⟨⟨(at_ main_v19 rfl).trans (after_out (V4 m) c),
      (at_ main_arg0 rfl).trans (unwritten m c main_arg0 (by decide) (by decide) (by decide) (by decide) (by decide)),
      (at_ main_arg1 rfl).trans (unwritten m c main_arg1 (by decide) (by decide) (by decide) (by decide) (by decide))⟩, by simpa using hb⟩
  · iexact HSI

set_option backward.isDefEq.respectTransparency.types false in
/-- THE RUN, over any float values: from any memory with zero counters every weakly fair execution of the program ends, the result on
    every device is `outV` of the partial sums that the host code left, the arguments are unchanged and every counter is at zero. -/
theorem run_main : θ_run defs (onTc (τ := τ) (main (F := F))) ⟨m, fun _ => 0, ρ⟩ (fun r =>
    (∀ c : Dev nD, r.2.mem ((c : Thread nD τ).loc main_v19) = outV (parts (V4 m)) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  θ_run_regions_kit_dev_sems (pcfgs (F := F)) adm (pdats (V4 m)) () cellOf_inj EP defs₀ 𝒱₀ L lv m ρ main
    (segs m 𝒱₀ L lv (fun _ => rest m) () (pdats (V4 m)) (reg0 (V4 m)))
    (fun c Q => by
      rewrite [main_chain c, Seg.run_eq_chain,
        show (segs m 𝒱₀ L lv (fun _ => rest m) () (pdats (V4 m)) (reg0 (V4 m)) c).map Seg.prog = [
          StableHlo.seq (hostOps0 c),
          StableHlo.seq hostOps0_1,
          StableHlo.seq hostOps0_2,
          StableHlo.seq hostOps0_3,
          Prog.lift (.customCall (Pipeline.entry 0) ()) ] from rfl]
      exact .rfl)
    (fun c => by simp only [segs, Seg.pipes_host, Seg.pipes_region, Seg.pipes_nil]; decide) O₀ L_of_ne G (u₀ (F := F))
    (by
      unfold u₀
      rw [all_G]
      iintro Hu
      ihave H := (ownU_pair _ _) $$ Hu
      icases H with ⟨HP, HX⟩
      imodintro
      isplitl [HP]; · iexact HP
      iexact HX)
    (fun c => iprop(StableHlo.held (c : Thread nD τ) (ucRefs τ sig) (V0 m c) ∗ rest m c))
    (fun c => iprop(StableHlo.held (c : Thread nD τ) (ucRefs τ sig) (after (V4 m) c) ∗ semVal (barC c) 0))
    (fun c => ⟨.rfl, .rfl, .rfl, .rfl, call_pre m c, call_post (V4 m) c⟩)
    (start m ρ) (ends m) (read_end m)
    (fun s h hs => ⟨fun c => (h c).1, sem_eq_zero hs fun c sm hsm => by
      obtain rfl := unscoped_bar sm hsm
      exact (h c).2⟩)

end Cert.EmbedProof

end
-- ==== Proof.Host.lean ====
/-
# What the host code computes before the kernel's call

`looked c ids` are the row numbers that device `c` looks up, `within c ids` says which ids lie in its block of the table, and
`partialOf c ids E` is the partial sum it brings to the call. `parts_eq` reads the host code's result off the run.
-/
module

public import proofs.«01_k».proof.Proof.Launch

@[expose] public section

noncomputable section

namespace Cert.EmbedProof

open Cert.KernelIdeal Cert.KernelIdeal.Gen
open Idealize.ShloMosaic Idealize.ShloMosaic.TcCoe Idealize.ShloMosaic.Pipeline Idealize.ShloMosaic.StableHlo

variable {F : FTy → Type} [FloatOps F]

/-- The first row of the table that device `c` holds. -/
def firstRow (c : Dev nD) : IVec S_ 32 :=
  muli (id (Host.remui (Host.divui (constantI S_ 32 (Dev.word c)) (constantI S_ 32 8#32)) (constantI S_ 32 2#32))) (constantI S_ 32 4096#32)
/-- The ids counted from there. -/
def shifted (c : Dev nD) (ids : IVec S512 32) : IVec S512 32 :=
  subi ids (broadcastInDim S512 ![] bcast_S_S512 (firstRow c))
/-- Whether each id is a row of the device's block. -/
def within (c : Dev nD) (ids : IVec S512 32) : IVec S512 1 :=
  andi (cmpi .sge (shifted c ids) (broadcastInDim S512 ![] bcast_S_S512 (constantI S_ 32 0#32)))
    (cmpi .slt (shifted c ids) (broadcastInDim S512 ![] bcast_S_S512 (constantI S_ 32 4096#32)))
/-- The row looked up: the id's, or row 0 where the block has none for it. -/
def looked (c : Dev nD) (ids : IVec S512 32) : IVec S512 32 :=
  select (within c ids) (shifted c ids) (broadcastInDim S512 ![] bcast_S_S512 (id (constantI S_ 32 0#32)))
/-- The rows looked up, negative ones counted from the table's end, as a column. -/
def column (r : IVec S512 32) : IVec S512x1 32 :=
  broadcastInDim S512x1 ![0] bcast_S512_S512x1_0
    (select (cmpi .slt r (broadcastInDim S512 ![] bcast_S_S512 (constantI S_ 32 0#32)))
      (addi r (broadcastInDim S512 ![] bcast_S_S512 (constantI S_ 32 4096#32))) r)
/-- Whether each of them is a row of the table. -/
def inTable (r : IVec S512 32) : IVec S512 1 :=
  Host.reduce IntOp.andi
    (andi (cmpi .sge (column r) (broadcastInDim S512x1 ![] bcast_S_S512x1 (constantI S_ 32 0#32)))
      (cmpi .sle (column r) (broadcastInDim S512x1 ![0, 1] bcast_S1x1_S512x1_0_1
        (broadcastInDim S1x1 ![1] bcast_S1_S1x1_1 (constantI S1 32 4095#32)))))
    (constantI S_ 1 1#1) reducesTo_S512x1_S512_d1 h_S_
/-- The table's rows `r`, filled where there is no such row. -/
def taken (r : IVec S512 32) (E : FVec F S4096x512 .f32) : FVec F S512x512 .f32 :=
  select (broadcastInDim S512x512 ![0] bcast_S512_S512x512_0 (inTable r))
    (Host.gather gather_S4096x512_S512x1_S512x512_1_0_n_n_0_1_1512 E (column r))
    (broadcastInDim S512x512 ![] bcast_S_S512x512 (constant S_ .f32 0x7FC00000#32))
/-- The mask as numbers, one row each. -/
def asFloat (v : IVec S512 1) : FVec F S512x512 .f32 :=
  broadcastInDim S512x512 ![0, 1] bcast_S512x1_S512x512_0_1 (uitofp .f32 (broadcastInDim S512x1 ![0] bcast_S512_S512x1_0 v))
/-- The device's partial sum. -/
def partialOf (c : Dev nD) (ids : IVec S512 32) (E : FVec F S4096x512 .f32) : FVec F S512x512 .f32 :=
  mulf (taken (looked c ids) E) (asFloat (within c ids))

variable (m : (ℓ : Loc nD τ sig) → Buf (Elt F) ℓ) (c : Dev nD)

theorem V1_v12 : V1 m c main_v12 = within c (m ((c : Thread nD τ).loc main_arg0)) := by
  unfold V1; after_results <;> rfl
theorem V1_v7 : V1 m c main_v7 = shifted c (m ((c : Thread nD τ).loc main_arg0)) := by
  unfold V1; after_results <;> rfl
theorem V1_c4 : V1 m c main_c_4 = constantI S_ 32 0#32 := by
  unfold V1; after_results <;> rfl

theorem V2_v13 : V2 m c main_v13 = looked c (m ((c : Thread nD τ).loc main_arg0)) := by
  have h : V2 m c main_v13 = select (V1 m c main_v12) (V1 m c main_v7)
      (broadcastInDim S512 ![] bcast_S_S512 (id (V1 m c main_c_4))) := by
    unfold V2; after_results <;> rfl
  rw [h, V1_v12, V1_v7, V1_c4]; rfl

set_option maxHeartbeats 2000000 in
/-- What the lookup's operations leave, whatever they started from. -/
theorem lookup_result (V : Valuation τ sig (Elt F)) : StableHlo.after hostOps0_2 V main_v14 = taken (V main_v13) (V main_arg1) := by
  after_results_simp
  rfl

theorem V3_v14 : V3 m c main_v14 = taken (looked c (m ((c : Thread nD τ).loc main_arg0))) (m ((c : Thread nD τ).loc main_arg1)) := by
  rw [show V3 m c main_v14 = _ from lookup_result (V2 m c), V2_v13, V2_of m c main_arg1 (by decide), V1_of m c main_arg1 (by decide)]

theorem V4_v18 : V4 m c main_v18 = partialOf c (m ((c : Thread nD τ).loc main_arg0)) (m ((c : Thread nD τ).loc main_arg1)) := by
  have h : V4 m c main_v18 = mulf (V3 m c main_v14) (asFloat (V3 m c main_v12)) := by
    unfold V4; after_results <;> rfl
  rw [h, V3_v14, V3_of m c main_v12 (by decide), V2_of m c main_v12 (by decide), V1_v12]; rfl

/-- The partial sums at the call, as terms of the arguments. -/
theorem parts_eq : parts (V4 m) = fun c => partialOf c (m ((c : Thread nD τ).loc main_arg0)) (m ((c : Thread nD τ).loc main_arg1)) :=
  funext fun c => V4_v18 m c

end Cert.EmbedProof

end
-- ==== Proof.Entry.lean ====
/-
# A partial sum at one entry

For an id below 8192 at row `r`, the partial sum of a device holds at row `r` the id's row of the device's block of the table when the id lies
in that block, and zeros when it does not. On exact numbers.
-/
module

public import proofs.«01_k».proof.Proof.Host
public import Idealize.ShloMosaic.Lib.Routing.Ops
public import Idealize.ShloMosaic.Lib.ReduceAll

@[expose] public section

noncomputable section

namespace Cert.EmbedProof

open Cert.KernelIdeal Cert.KernelIdeal.Gen
open Idealize.ShloMosaic Idealize.ShloMosaic.TcCoe
open Idealize.ShloMosaic.ValueIdx (select_one select_zero eq_zero_of_ne_one)

/-! ## Words -/

theorem toInt_small {n : ℕ} (h : n < 2 ^ 31) : (BitVec.ofNat 32 n).toInt = n :=
  StableHlo.Predicate.toInt_ofNat_small n h

/-- The id counted from block `x`'s first row, as an integer. -/
theorem toInt_shift {n x : ℕ} (hn : n < 8192) (hx : x < 2) :
    (IntOp.subi (BitVec.ofNat 32 n) (BitVec.ofNat 32 (4096 * x))).toInt = (n : ℤ) - 4096 * x := by
  unfold IntOp.subi
  rw [BitVec.toInt_sub, toInt_small (by omega), toInt_small (by omega), Int.bmod_def]
  push_cast
  omega

/-- Where the id lies in block `x`, that is its place in the block. -/
theorem shift_eq {n x : ℕ} (hx : n / 4096 = x) :
    IntOp.subi (BitVec.ofNat 32 n) (BitVec.ofNat 32 (4096 * x)) = BitVec.ofNat 32 (n % 4096) := by
  unfold IntOp.subi
  rw [show n = 4096 * x + n % 4096 from by omega, BitVec.ofNat_add, BitVec.add_comm, BitVec.add_sub_cancel]
  congr 1; omega

theorem bit_of {b : BitVec 1} {p : Prop} [Decidable p] (h : b = 1#1 ↔ p) : b = if p then 1#1 else 0#1 := by
  by_cases hp : p
  · rw [if_pos hp]; exact h.mpr hp
  · rw [if_neg hp]; exact eq_zero_of_ne_one fun e => hp (h.mp e)

/-- The mask's bit: whether the id lies in block `x`. -/
theorem mask_bit {n x : ℕ} (hn : n < 8192) (hx : x < 2) :
    IntOp.andi (IntOp.cmpi .sge (IntOp.subi (BitVec.ofNat 32 n) (BitVec.ofNat 32 (4096 * x))) 0#32)
        (IntOp.cmpi .slt (IntOp.subi (BitVec.ofNat 32 n) (BitVec.ofNat 32 (4096 * x))) 4096#32)
      = if n / 4096 = x then 1#1 else 0#1 := by
  refine bit_of ?_
  rw [IntOp.andi_eq_one, IntOp.cmpi_sge, IntOp.cmpi_slt, toInt_shift hn hx,
    show (0#32).toInt = 0 from by decide, show (4096#32).toInt = 4096 from by decide]
  omega

/-! ## The mesh -/

/-- Device `c`'s coordinate on the axis that cuts the table. -/
def xOf (c : Dev nD) : ℕ := c.val / 8 % 2
theorem xOf_lt (c : Dev nD) : xOf c < 2 := Nat.mod_lt _ (by decide)
theorem xOf_xn (c : Dev nD) : xOf (xn c) = 1 - xOf c := by revert c; decide +kernel
theorem xOf_yn (c : Dev nD) : xOf (yn c) = xOf c := by revert c; decide +kernel

theorem firstRow_at (c : Dev nD) (j : S_.Idx) : firstRow c j = BitVec.ofNat 32 (4096 * xOf c) := by
  show IntOp.muli (IntOp.remui .host (IntOp.divui .host (Dev.word c) 8#32) 2#32) 4096#32 = _
  revert c; decide +kernel

/-! ## The row looked up -/

section Rows

variable (c : Dev nD) (ids : IVec S512 32) (k : S512.Idx) {n : ℕ} (hk : ids k = BitVec.ofNat 32 n) (hn : n < 8192)
include hk hn

theorem shifted_at : shifted c ids k = IntOp.subi (BitVec.ofNat 32 n) (BitVec.ofNat 32 (4096 * xOf c)) :=
  congrArg₂ IntOp.subi hk (firstRow_at c _)

theorem within_at : within c ids k = if n / 4096 = xOf c then 1#1 else 0#1 := by
  show IntOp.andi (IntOp.cmpi .sge (shifted c ids k) 0#32) (IntOp.cmpi .slt (shifted c ids k) 4096#32) = _
  rw [shifted_at c ids k hk hn]
  exact mask_bit hn (xOf_lt c)

theorem looked_at : looked c ids k = BitVec.ofNat 32 (if n / 4096 = xOf c then n % 4096 else 0) := by
  show Scalar.select (within c ids k) (shifted c ids k) 0#32 = _
  rw [within_at c ids k hk hn, shifted_at c ids k hk hn]
  by_cases h : n / 4096 = xOf c
  · rw [if_pos h, if_pos h, select_one]; exact shift_eq h
  · rw [if_neg h, if_neg h, select_zero]

end Rows

/-! ## The lookup -/

/-- Spreading a column entry by entry: the entry of its row. -/
theorem spread_col {α : Type} (v : S512.Idx → α) (j : S512x1.Idx) :
    broadcastInDim S512x1 ![0] bcast_S512_S512x1_0 v j = v (ValueIdx.ix1 (j 0)) := by
  refine congrArg v (funext fun a => ?_)
  obtain rfl : a = 0 := Subsingleton.elim _ _
  rfl
theorem spread_rows {α : Type} (v : S512.Idx → α) (j : S512x512.Idx) :
    broadcastInDim S512x512 ![0] bcast_S512_S512x512_0 v j = v (ValueIdx.ix1 (j 0)) := by
  refine congrArg v (funext fun a => ?_)
  obtain rfl : a = 0 := Subsingleton.elim _ _
  rfl
theorem spread_both {α : Type} (v : S512x1.Idx → α) (j : S512x512.Idx) :
    broadcastInDim S512x512 ![0, 1] bcast_S512x1_S512x512_0_1 v j = v (ValueIdx.ix2 (j 0) 0) := by
  refine congrArg v (funext ?_)
  exact Fin.forall_fin_two.mpr ⟨rfl, rfl⟩

section Take

variable (r : IVec S512 32) (a : S512.Idx → ℕ) (ha : ∀ k, a k < 4096) (hr : ∀ k, r k = BitVec.ofNat 32 (a k))
include ha hr

theorem column_at (j : S512x1.Idx) : column r j = BitVec.ofNat 32 (a (ValueIdx.ix1 (j 0))) := by
  unfold column
  rw [spread_col]
  show Scalar.select (IntOp.cmpi .slt (r (ValueIdx.ix1 (j 0))) 0#32) (IntOp.addi (r (ValueIdx.ix1 (j 0))) 4096#32) (r (ValueIdx.ix1 (j 0))) = _
  have h : IntOp.cmpi .slt (r (ValueIdx.ix1 (j 0))) 0#32 = 0#1 := eq_zero_of_ne_one fun e => by
    have := ha (ValueIdx.ix1 (j 0))
    rw [IntOp.cmpi_slt, hr, toInt_small (by omega), show (0#32).toInt = 0 from by decide] at e
    omega
  rw [h, select_zero, hr]

theorem inTable_at (k : S512.Idx) : inTable r k = 1#1 := by
  refine Host.reduce_andi_one _ _ _ _ _ rfl fun j => ?_
  show IntOp.andi (IntOp.cmpi .sge (column r j) 0#32) (IntOp.cmpi .sle (column r j) 4095#32) = 1#1
  have := ha (ValueIdx.ix1 (j 0))
  rw [IntOp.andi_eq_one, IntOp.cmpi_sge, IntOp.cmpi_sle, show (0#32).toInt = 0 from by decide,
    show (4095#32).toInt = 4095 from by decide, column_at r a ha hr, toInt_small (by omega)]
  omega

theorem taken_at {F : FTy → Type} [FloatOps F] (E : FVec F S4096x512 .f32) (i : S512x512.Idx) :
    taken r E i = E (ValueIdx.ix2 ⟨a (ValueIdx.ix1 (i 0)), ha _⟩ (i 1)) := by
  have h : taken r E i = Scalar.select (broadcastInDim S512x512 ![0] bcast_S512_S512x512_0 (inTable r) i)
      (Host.gather gather_S4096x512_S512x1_S512x512_1_0_n_n_0_1_1512 E (column r) i)
      (broadcastInDim S512x512 ![] bcast_S_S512x512 (constant S_ .f32 0x7FC00000#32) i) := rfl
  rw [h, spread_rows, inTable_at r a ha hr, select_one, ValueIdx.eq_ix2 i]
  exact Routing.gather_row _ rfl rfl rfl rfl rfl E (column r) (i 0) (i 1) ⟨a (ValueIdx.ix1 (i 0)), ha _⟩ (column_at r a ha hr _) (by decide)

end Take

/-! ## The entry -/

/-- The mask as a number. -/
theorem asFloat_at (v : IVec S512 1) (i : S512x512.Idx) :
    asFloat (F := Ideal) v i = (((v (ValueIdx.ix1 (i 0))).toNat : ℝ) : EReal) := by
  unfold asFloat
  rw [spread_both]
  show (((broadcastInDim S512x1 ![0] bcast_S512_S512x1_0 v (ValueIdx.ix2 (i 0) 0)).toNat : ℝ) : EReal) = _
  rw [spread_col]

/-- A device's partial sum at one entry, for ids that are all below 8192. -/
theorem partial_at (c : Dev nD) (ids : IVec S512 32) (n : S512.Idx → ℕ) (hid : ∀ k, ids k = BitVec.ofNat 32 (n k))
    (hn : ∀ k, n k < 8192) (E : FVec Ideal S4096x512 .f32) (i : S512x512.Idx) :
    partialOf c ids E i = if n (ValueIdx.ix1 (i 0)) / 4096 = xOf c then
      E (ValueIdx.ix2 ⟨n (ValueIdx.ix1 (i 0)) % 4096, Nat.mod_lt _ (by decide)⟩ (i 1)) else (0 : EReal) := by
  have hlt : ∀ k, (if n k / 4096 = xOf c then n k % 4096 else 0) < 4096 := fun k => by split <;> omega
  show (taken (looked c ids) E i : EReal) * asFloat (F := Ideal) (within c ids) i = _
  rw [taken_at (looked c ids) _ hlt (fun k => looked_at c ids k (hid k) (hn k)), asFloat_at,
    within_at c ids _ (hid _) (hn _)]
  by_cases h : n (ValueIdx.ix1 (i 0)) / 4096 = xOf c
  · simp only [if_pos h]
    show _ * (((1 : ℕ) : ℝ) : EReal) = _
    rw [Nat.cast_one, EReal.coe_one, mul_one]
  · simp only [if_neg h]
    show _ * (((0 : ℕ) : ℝ) : EReal) = _
    rw [Nat.cast_zero, EReal.coe_zero, mul_zero]

end Cert.EmbedProof

end
-- ==== Proof.Ref.lean ====
/-
# The reference at one entry

For ids below 8192 the reference's result holds at row `r` the table's row that the id at `r` names.
-/
module

public import proofs.«01_k».proof.Proof.Entry
public import proofs.«01_k».proof.Proof.Gen.ReferenceIdeal.Run

@[expose] public section

noncomputable section

namespace Cert.EmbedProof.Ref

open Cert.ReferenceIdeal Cert.ReferenceIdeal.Gen
open Idealize.ShloMosaic Idealize.ShloMosaic.TcCoe
open Idealize.ShloMosaic.ValueIdx (select_zero eq_zero_of_ne_one)

variable {F : FTy → Type} [FloatOps F]

/-- The rows looked up, negative ones counted from the table's end, as a column. -/
def column (ids : IVec S512 32) : IVec S512x1 32 :=
  broadcastInDim S512x1 ![0] bcast_S512_S512x1_0
    (select (cmpi .slt ids (broadcastInDim S512 ![] bcast_S_S512 (constantI S_ 32 0#32)))
      (addi ids (broadcastInDim S512 ![] bcast_S_S512 (constantI S_ 32 8192#32))) ids)
/-- The reference's result. -/
def refOf (ids : IVec S512 32) (E : FVec F S8192x512 .f32) : FVec F S512x512 .f32 :=
  Host.gather gather_S8192x512_S512x1_S512x512_1_0_n_n_0_1_1512 E (column ids)

variable (ids : IVec S512 32) (n : S512.Idx → ℕ) (hid : ∀ k, ids k = BitVec.ofNat 32 (n k)) (hn : ∀ k, n k < 8192)
include hid hn

theorem column_at (r : Fin 512) : column ids (ValueIdx.ix2 r (0 : Fin 1)) = BitVec.ofNat 32 (n (ValueIdx.ix1 r)) := by
  have spread : column ids (ValueIdx.ix2 r (0 : Fin 1)) = Scalar.select (IntOp.cmpi .slt (ids (ValueIdx.ix1 r)) 0#32)
      (IntOp.addi (ids (ValueIdx.ix1 r)) 8192#32) (ids (ValueIdx.ix1 r)) := by
    refine congrArg (select (cmpi .slt ids _) (addi ids _) ids) (funext fun a => ?_)
    obtain rfl : a = 0 := Subsingleton.elim _ _
    rfl
  have h : IntOp.cmpi .slt (ids (ValueIdx.ix1 r)) 0#32 = 0#1 := eq_zero_of_ne_one fun e => by
    have := hn (ValueIdx.ix1 r)
    rw [IntOp.cmpi_slt, show (0#32).toInt = 0 from by decide, hid, toInt_small (by omega)] at e
    omega
  rw [spread, h, select_zero, hid]

theorem refOf_at (E : FVec F S8192x512 .f32) (i : S512x512.Idx) :
    refOf ids E i = E (ValueIdx.ix2 ⟨n (ValueIdx.ix1 (i 0)), hn _⟩ (i 1)) := by
  unfold refOf
  rw [ValueIdx.eq_ix2 i]
  exact Routing.gather_row _ rfl rfl rfl rfl rfl E (column ids) (i 0) (i 1) ⟨n (ValueIdx.ix1 (i 0)), hn _⟩
    (column_at ids n hid hn _) (by decide)

end Cert.EmbedProof.Ref

end
-- ==== Proof.Equation.lean ====
/-
# The kernel's result is the reference's

Each id below 8192 lies in exactly one of the table's two blocks. So of the two partial sums that are added at an entry, one is the table's entry
and the other is zero, and their sum is the entry that the reference reads.
-/
module

public import proofs.«01_k».proof.Proof.Total
public import proofs.«01_k».proof.Proof.Ref
public import Idealize.ShloMosaic.Lib.Layout

@[expose] public section

noncomputable section

namespace Cert.EmbedProof

open Cert.KernelIdeal Cert.KernelIdeal.Gen
open Idealize.ShloMosaic Idealize.ShloMosaic.TcCoe

/-- Device `c`'s block of the table. -/
abbrev blockOf (T : FVec Ideal ⟨2, ![8192, 512]⟩ .f32) (c : Dev nD) : FVec Ideal S4096x512 .f32 :=
  Layout.blockN ⟨2, ![4096, 512]⟩ ⟨2, ![8192, 512]⟩ (Layout.meshBlock [2, 2, 4] ![[0], []] c) T

/-- An entry of the device's block is the table's, `4096` rows further for each block before it. -/
theorem blockOf_at (T : FVec Ideal ⟨2, ![8192, 512]⟩ .f32) (c : Dev nD) {n : ℕ} (hn : n < 8192) (h : n / 4096 = xOf c) (b : Fin 512) :
    blockOf T c (ValueIdx.ix2 ⟨n % 4096, Nat.mod_lt _ (by decide)⟩ b) = T (ValueIdx.ix2 ⟨n, hn⟩ b) := by
  refine congrArg T (funext ?_)
  refine Fin.forall_fin_two.mpr ⟨Fin.ext ?_, Fin.ext ?_⟩
  · have hb : Layout.meshLin [2, 2, 4] c.val [0] = xOf c := by
      show c.val / 8 % 2 * 1 + 0 = c.val / 8 % 2
      omega
    show Layout.meshLin [2, 2, 4] c.val [0] * 4096 + n % 4096 = n
    rw [hb]; omega
  · show 0 * 512 + b.val = b.val
    omega

section

variable (T : FVec Ideal ⟨2, ![8192, 512]⟩ .f32) (ids : IVec S512 32) (n : S512.Idx → ℕ)
  (hid : ∀ k, ids k = BitVec.ofNat 32 (n k)) (hn : ∀ k, n k < 8192)
include hid hn

/-- Two devices with different blocks have, together, the id's row of the table. -/
theorem pair_at (c d : Dev nD) (hd : xOf d = 1 - xOf c) (i : S512x512.Idx) :
    (partialOf c ids (blockOf T c) i + partialOf d ids (blockOf T d) i : EReal)
      = T (ValueIdx.ix2 ⟨n (ValueIdx.ix1 (i 0)), hn _⟩ (i 1)) := by
  rw [partial_at c ids n hid hn, partial_at d ids n hid hn]
  have hx := xOf_lt c
  have hb := hn (ValueIdx.ix1 (i 0))
  by_cases h : n (ValueIdx.ix1 (i 0)) / 4096 = xOf c
  · rw [if_pos h, if_neg (by omega)]; exact (add_zero _).trans (blockOf_at T c (hn _) h (i 1))
  · rw [if_neg h, if_pos (by omega)]; exact (zero_add _).trans (blockOf_at T d (hn _) (by omega) (i 1))

/-- THE EQUATION: from the partial sums of ids that are all rows of the table, the result on every device is the reference's. -/
theorem outV_eq (P : Parts Ideal) (hP : ∀ c, P c = partialOf c ids (blockOf T c)) (c : Dev nD) : outV P c = Ref.refOf (F := Ideal) ids T := by
  funext i
  refine Eq.trans ?_ (Ref.refOf_at ids n hid hn T i).symm
  rcases outV_at P c i with h | h <;> rw [h, hP, hP]
  · exact pair_at T ids n hid hn c (xn c) (xOf_xn c) i
  · exact pair_at T ids n hid hn c (xn (yn c)) ((xOf_xn (yn c)).trans (by rw [xOf_yn])) i

end

end Cert.EmbedProof

end
-- ==== Proof.Claims.lean ====
/-
# The claims

The frames of the kernel, over either kind of floats, and of the reference; and the equation of their results on exact numbers, from ids that are
all rows of the table.
-/
module

public import proofs.«01_k».proof.Defs
public import proofs.«01_k».proof.Proof.Gen.Kernel
public import proofs.«01_k».proof.Proof.Gen.Pre_ids_in_table_KernelIdeal
public import proofs.«01_k».proof.Proof.Gen.Pre_ids_in_table_ReferenceIdeal
public import proofs.«01_k».proof.Proof.Equation

@[expose] public section

noncomputable section

namespace Cert.EmbedProof

open Idealize.ShloMosaic Idealize.ShloMosaic.TcCoe Idealize.SL.Sem

section
variable {F : FTy → Type} [FloatOps F]
/-- The kernel's text is one for both kinds of floats, … -/
theorem same_table : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) => rfl
  | ⟨_ + 1, h⟩, _ => exact absurd h (Nat.not_lt.2 (Nat.le_add_left _ _))
/-- … and so is the table of bodies with the pipeline in it. -/
theorem same_defs : @Cert.Kernel.defs F _ Cert.Kernel.Gen.facts = @Cert.KernelIdeal.defs F _ Cert.KernelIdeal.Gen.facts :=
  congrArg (Pipeline.defs (Cert.KernelIdeal.pcfgs (F := F))) same_table
/-- The host code is one too. -/
theorem same_main : @Cert.Kernel.main F _ Cert.Kernel.Gen.facts = @Cert.KernelIdeal.main F _ Cert.KernelIdeal.Gen.facts := rfl
end

/-- The kernel at the machine's floats ends, keeps its arguments and leaves every counter at zero. -/
theorem frame_kernel : Cert.quiescent_Kernel := by
  intro m ρ _
  rw [same_defs, same_main]
  exact (θ_run (Cert.KernelIdeal.defs (F := Bits)) _ _).mono (fun _ h => ⟨fun c => (h.1 c).2, h.2⟩) (run_main (F := Bits) m ρ)

/-- So does the kernel at exact numbers. -/
theorem frame_ideal : Cert.quiescent_KernelIdeal := fun m ρ _ =>
  (θ_run Cert.KernelIdeal.defs _ _).mono (fun _ h => ⟨fun c => (h.1 c).2, h.2⟩) (run_main (F := Ideal) m ρ)
theorem frame_ideal_pre : Cert.quiescent_KernelIdeal_pre_ids_in_table_KernelIdeal := fun m ρ _ => frame_ideal m ρ trivial

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_ids_in_table_ReferenceIdeal := fun m ρ _ => frame_reference m ρ trivial

/-- A word read signed in `[0, 8192)` is that number. -/
theorem word_small {w : BitVec 32} (h0 : 0 ≤ w.toInt) (h1 : w.toInt < 8192) : w.toNat < 8192 := by
  rw [BitVec.toInt_eq_toNat_cond] at h0 h1
  split at h0 <;> omega

/-- A word is the one of its own number. -/
theorem word_back (w : BitVec 32) : BitVec.ofNat 32 w.toNat = w := by simp

/-- What the precondition says: every id is a row of the table. -/
theorem ids_small (m : (ℓ : Loc Cert.KernelIdeal.nD Cert.KernelIdeal.τ Cert.KernelIdeal.sig) → Buf (Elt Ideal) ℓ)
    (h : Cert.Pre_KernelIdeal_ids_in_table_KernelIdeal m) (c : Dev Cert.KernelIdeal.nD) (k : Cert.KernelIdeal.S512.Idx) :
    BitVec.toNat (w := 32) (m ((c : Thread Cert.KernelIdeal.nD Cert.KernelIdeal.τ).loc Cert.KernelIdeal.main_arg0) k) < 8192 := by
  have : Subsingleton (Cert.Pre_ids_in_table_KernelIdeal.S_).Idx := ⟨fun a b => funext fun x => x.elim0⟩
  have hk := Host.reduce_andi_all _ _ _ _ _ (congrFun (h c) ValueIdx.ix0) k
  have hk' := IntOp.andi_eq_one.1 hk
  refine word_small ?_ ?_
  · have := IntOp.cmpi_sge.1 hk'.1; exact this
  · have := IntOp.cmpi_slt.1 hk'.2; exact this

/-- The ids that the reference is given. -/
def idsOf (m : (ℓ : Loc Cert.ReferenceIdeal.nD Cert.ReferenceIdeal.τ Cert.ReferenceIdeal.sig) → Buf (Elt Ideal) ℓ) : IVec Cert.KernelIdeal.S512 32 :=
  m (((0 : Dev Cert.ReferenceIdeal.nD) : Thread Cert.ReferenceIdeal.nD Cert.ReferenceIdeal.τ).loc Cert.ReferenceIdeal.main_arg0)
/-- The table that it is given. -/
def tableOf (m : (ℓ : Loc Cert.ReferenceIdeal.nD Cert.ReferenceIdeal.τ Cert.ReferenceIdeal.sig) → Buf (Elt Ideal) ℓ) :
    FVec Ideal Cert.ReferenceIdeal.S8192x512 .f32 :=
  m (((0 : Dev Cert.ReferenceIdeal.nD) : Thread Cert.ReferenceIdeal.nD Cert.ReferenceIdeal.τ).loc Cert.ReferenceIdeal.main_arg1)

/-- The reference's run, its result named. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => r.2.mem (((0 : Dev Cert.ReferenceIdeal.nD) : Thread Cert.ReferenceIdeal.nD Cert.ReferenceIdeal.τ).loc Cert.ReferenceIdeal.main_v6)
          = Ref.refOf (F := Ideal) (idsOf m) (tableOf m)
        ∧ r.2.mem (((0 : Dev Cert.ReferenceIdeal.nD) : Thread Cert.ReferenceIdeal.nD Cert.ReferenceIdeal.τ).loc Cert.ReferenceIdeal.main_arg0) = idsOf m
        ∧ r.2.mem (((0 : Dev Cert.ReferenceIdeal.nD) : Thread Cert.ReferenceIdeal.nD Cert.ReferenceIdeal.τ).loc Cert.ReferenceIdeal.main_arg1) = tableOf m) :=
  (θ_run (Cert.ReferenceIdeal.defs (F := Ideal)) _ _).mono (fun _ h => h 0) (Cert.ReferenceIdeal.Value.run (F := Ideal) m ρ)

attribute [local irreducible] outV partialOf parts Ref.refOf

/-- The result on every device is the reference's, when the arguments are the reference's and every id is a row of the table. -/
theorem value_eq (m : (ℓ : Loc Cert.KernelIdeal.nD Cert.KernelIdeal.τ Cert.KernelIdeal.sig) → Buf (Elt Ideal) ℓ)
    (hpre : Cert.Pre_KernelIdeal_ids_in_table_KernelIdeal m) (ids : IVec Cert.KernelIdeal.S512 32)
    (T : FVec Ideal Cert.ReferenceIdeal.S8192x512 .f32)
    (hi : ∀ c : Dev Cert.KernelIdeal.nD, m ((c : Thread Cert.KernelIdeal.nD Cert.KernelIdeal.τ).loc Cert.KernelIdeal.main_arg0) = ids)
    (ht : ∀ c : Dev Cert.KernelIdeal.nD, m ((c : Thread Cert.KernelIdeal.nD Cert.KernelIdeal.τ).loc Cert.KernelIdeal.main_arg1) = blockOf T c)
    (c : Dev Cert.KernelIdeal.nD) : outV (parts (Cert.KernelIdeal.Gen.V4 m)) c = Ref.refOf (F := Ideal) ids T := by
  refine outV_eq T ids (fun k => BitVec.toNat (w := 32) (ids k)) (fun k => ?_) (fun k => ?_) _ (fun d => ?_) c
  · exact (word_back (ids k)).symm
  · rw [← hi 0]; exact ids_small m hpre 0 k
  · exact (congrFun (parts_eq m) d).trans (congrArg₂ (partialOf d) (hi d) (ht d))

/-- The kernel's result is the reference's on exact numbers, when every id is a row of the table. -/
theorem equal : Cert.algebraic_KernelIdeal_ReferenceIdeal_pre_ids_in_table_KernelIdeal := by
  intro m ρ m' ρ' hpre hagree
  have hv := value_eq m hpre (idsOf m') (tableOf m') (fun c => (hagree c).1) (fun c => (hagree c).2)
  have hk := run_main (F := Ideal) m ρ
  refine ⟨Ref.refOf (F := Ideal) (idsOf m') (tableOf m'), ?_, run_reference m' ρ'⟩
  generalize Ref.refOf (F := Ideal) (idsOf m') (tableOf m') = v at hv
  exact (θ_run (Cert.KernelIdeal.defs (F := Ideal)) _ _).mono (fun _ h c => ⟨(h.1 c).1.trans (hv c), (h.1 c).2⟩) hk

end Cert.EmbedProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_table_KernelIdeal
public import proofs.«01_k».proof.Proof.Gen.Pre_ids_in_table_ReferenceIdeal
public import proofs.«01_k».proof.Proof.Claims
public import Idealize.ShloMosaic.Adequacy
public import Idealize.ShloMosaic.Init

@[expose] public section

noncomputable section

namespace Cert.Proof

/-- Every claim of the statement holds. -/
theorem claim : Cert.Claim := ⟨Cert.Kernel.Gen.facts, Cert.KernelIdeal.Gen.facts, Cert.ReferenceIdeal.Gen.facts, Cert.Pre_ids_in_table_KernelIdeal.Gen.facts, Cert.Pre_ids_in_table_ReferenceIdeal.Gen.facts,
  Cert.EmbedProof.frame_kernel, Cert.EmbedProof.frame_ideal, Cert.EmbedProof.frame_ideal_pre, Cert.EmbedProof.frame_reference,
  Cert.EmbedProof.frame_reference_pre, trivial, Cert.EmbedProof.equal⟩

end Cert.Proof

end
